-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 8, 64]⟩ ⟨4, ![2, 128, 256, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 128, 256, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x8x64 : S_.BroadcastsInDim S2x128x8x64 (![] : Fin 0 → Fin S2x128x8x64.rank)
  reducesTo_S2x128x8x64_S_d0_1_2_3 : S2x128x8x64.ReducesTo [0, 1, 2, 3] S_

variable [Facts]

def fn {F : FTy → Type} [FloatOps F] (main_arg0 : FVec F S2x128x512 .bf16) (main_arg1 : FVec F S512x512 .bf16) (main_arg2 : FVec F S2x128x8x64 .bf16) (main_arg3 : FVec F S2x128x8x64 .bf16) (main_arg4 : FVec F S512x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .bf16 := Host.absf main_arg1
  let main_cst_0 : FVec F S_ .bf16 := constant S_ .bf16 0x7F80#16
  let main_v5 : FVec F S512x512 .bf16 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x8x64 .bf16 := Host.absf main_arg2
  let main_cst_2 : FVec F S_ .bf16 := constant S_ .bf16 0x7F80#16
  let main_v10 : FVec F S2x128x8x64 .bf16 := broadcastInDim S2x128x8x64 ![] bcast_S_S2x128x8x64 main_cst_2
  let main_v11 : IVec S2x128x8x64 1 := cmpf .olt main_v9 main_v10
  let main_c_3 : IVec S_ 1 := constantI S_ 1 1#1
  let main_v12 : IVec S_ 1 := (fun x v => Host.reduce IntOp.andi x v reducesTo_S2x128x8x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x16384 : Shape := ⟨2, ![512, 16384]⟩
abbrev S2x128x256x64 : Shape := ⟨4, ![2, 128, 256, 64]⟩
abbrev S16384x512 : Shape := ⟨2, ![16384, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S2x128x256x64 : S_.BroadcastsInDim S2x128x256x64 (![] : Fin 0 → Fin S2x128x256x64.rank)
  reducesTo_S2x128x256x64_S_d0_1_2_3 : S2x128x256x64.ReducesTo [0, 1, 2, 3] S_

variable [Facts]

def fn {F : FTy → Type} [FloatOps F] (main_arg0 : FVec F S2x128x512 .bf16) (main_arg1 : FVec F S512x16384 .bf16) (main_arg2 : FVec F S2x128x256x64 .bf16) (main_arg3 : FVec F S2x128x256x64 .bf16) (main_arg4 : FVec F S16384x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x16384 .bf16 := Host.absf main_arg1
  let main_cst_0 : FVec F S_ .bf16 := constant S_ .bf16 0x7F80#16
  let main_v5 : FVec F S512x16384 .bf16 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_v9 : FVec F S2x128x256x64 .bf16 := Host.absf main_arg2
  let main_cst_2 : FVec F S_ .bf16 := constant S_ .bf16 0x7F80#16
  let main_v10 : FVec F S2x128x256x64 .bf16 := broadcastInDim S2x128x256x64 ![] bcast_S_S2x128x256x64 main_cst_2
  let main_v11 : IVec S2x128x256x64 1 := cmpf .olt main_v9 main_v10
  let main_c_3 : IVec S_ 1 := constantI S_ 1 1#1
  let main_v12 : IVec S_ 1 := (fun x v => Host.reduce IntOp.andi x v reducesTo_S2x128x256x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S256x512 : Shape := ⟨2, ![256, 512]⟩
abbrev S32x16x256 : Shape := ⟨3, ![32, 16, 256]⟩
abbrev S16x256 : Shape := ⟨2, ![16, 256]⟩
abbrev S32 : Shape := ⟨1, ![32]⟩
abbrev S_ : Shape := ⟨0, ![]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x16x256 : Shape := ⟨3, ![1, 16, 256]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x8x64, .bf16⟩
  | .hbm, ⟨3, _⟩ => ⟨S2x128x8x64, .bf16⟩
  | .hbm, ⟨4, _⟩ => ⟨S512x512, .bf16⟩
  | .hbm, ⟨5, _⟩ => ⟨S2x128x512, .bf16⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S2x128x512, .bf16⟩
  | .local _ .vmem, ⟨6, _⟩ => ⟨S256x512, .bf16⟩
  | .local _ .vmem, ⟨7, _⟩ => ⟨S32x16x256, .bf16⟩
  | .local _ .vmem, ⟨8, _⟩ => ⟨S16x256, .bf16⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_257 : BitVec 32 := 0#32
  let c0_i32_258 : BitVec 32 := 0#32
  ![v2.toNat, 0, 0]
def k0_off3 (d0 : Dev nD) (c1_i32_249 : BitVec 32) : Fin 2 → Nat :=
  let c16_i32_252 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v500 : BitVec 32 := Scalar.addi v2 c1_i32_249
  let c32_i32_250 : BitVec 32 := 32#32
  let v501 : BitVec 32 := Scalar.remsi v500 c32_i32_250
  let c2_i32_251 : BitVec 32 := 2#32
  let v502 : BitVec 32 := Scalar.divsi v501 c2_i32_251
  let v503 : BitVec 32 := Scalar.muli c16_i32_252 v502
  let c256_i32 : BitVec 32 := 256#32
  let c2_i32_253 : BitVec 32 := 2#32
  let v504 : BitVec 32 := Scalar.remsi v501 c2_i32_253
  let v505 : BitVec 32 := Scalar.muli c256_i32 v504
  ![v503.toNat, v505.toNat]
def k0_dev32 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_249 : BitVec 32 := 1#32
  let v500 : BitVec 32 := Scalar.addi v2 c1_i32_249
  let c32_i32_250 : BitVec 32 := 32#32
  let v501 : BitVec 32 := Scalar.remsi v500 c32_i32_250
  let c1_i32_255 : BitVec 32 := 1#32
  let v506 : BitVec 32 := Scalar.muli v501 c1_i32_255
  let v507 : BitVec 32 := Scalar.addi c0_i32_256 v506
  v507.toNat
def k0_dev33 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_259 : BitVec 32 := 2#32
  let v515 : BitVec 32 := Scalar.addi v2 c2_i32_259
  let c32_i32_260 : BitVec 32 := 32#32
  let v516 : BitVec 32 := Scalar.remsi v515 c32_i32_260
  let c1_i32_266 : BitVec 32 := 1#32
  let v521 : BitVec 32 := Scalar.muli v516 c1_i32_266
  let v522 : BitVec 32 := Scalar.addi c0_i32_267 v521
  v522.toNat
def k0_dev34 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_270 : BitVec 32 := 3#32
  let v530 : BitVec 32 := Scalar.addi v2 c3_i32_270
  let c32_i32_271 : BitVec 32 := 32#32
  let v531 : BitVec 32 := Scalar.remsi v530 c32_i32_271
  let c1_i32_277 : BitVec 32 := 1#32
  let v536 : BitVec 32 := Scalar.muli v531 c1_i32_277
  let v537 : BitVec 32 := Scalar.addi c0_i32_278 v536
  v537.toNat
def k0_dev35 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_281 : BitVec 32 := 4#32
  let v545 : BitVec 32 := Scalar.addi v2 c4_i32_281
  let c32_i32_282 : BitVec 32 := 32#32
  let v546 : BitVec 32 := Scalar.remsi v545 c32_i32_282
  let c1_i32_288 : BitVec 32 := 1#32
  let v551 : BitVec 32 := Scalar.muli v546 c1_i32_288
  let v552 : BitVec 32 := Scalar.addi c0_i32_289 v551
  v552.toNat
def k0_dev36 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_292 : BitVec 32 := 5#32
  let v560 : BitVec 32 := Scalar.addi v2 c5_i32_292
  let c32_i32_293 : BitVec 32 := 32#32
  let v561 : BitVec 32 := Scalar.remsi v560 c32_i32_293
  let c1_i32_299 : BitVec 32 := 1#32
  let v566 : BitVec 32 := Scalar.muli v561 c1_i32_299
  let v567 : BitVec 32 := Scalar.addi c0_i32_300 v566
  v567.toNat
def k0_dev37 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_303 : BitVec 32 := 6#32
  let v575 : BitVec 32 := Scalar.addi v2 c6_i32_303
  let c32_i32_304 : BitVec 32 := 32#32
  let v576 : BitVec 32 := Scalar.remsi v575 c32_i32_304
  let c1_i32_310 : BitVec 32 := 1#32
  let v581 : BitVec 32 := Scalar.muli v576 c1_i32_310
  let v582 : BitVec 32 := Scalar.addi c0_i32_311 v581
  v582.toNat
def k0_dev38 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_314 : BitVec 32 := 7#32
  let v590 : BitVec 32 := Scalar.addi v2 c7_i32_314
  let c32_i32_315 : BitVec 32 := 32#32
  let v591 : BitVec 32 := Scalar.remsi v590 c32_i32_315
  let c1_i32_321 : BitVec 32 := 1#32
  let v596 : BitVec 32 := Scalar.muli v591 c1_i32_321
  let v597 : BitVec 32 := Scalar.addi c0_i32_322 v596
  v597.toNat
def k0_dev39 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_325 : BitVec 32 := 8#32
  let v605 : BitVec 32 := Scalar.addi v2 c8_i32_325
  let c32_i32_326 : BitVec 32 := 32#32
  let v606 : BitVec 32 := Scalar.remsi v605 c32_i32_326
  let c1_i32_332 : BitVec 32 := 1#32
  let v611 : BitVec 32 := Scalar.muli v606 c1_i32_332
  let v612 : BitVec 32 := Scalar.addi c0_i32_333 v611
  v612.toNat
def k0_dev40 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_336 : BitVec 32 := 9#32
  let v620 : BitVec 32 := Scalar.addi v2 c9_i32_336
  let c32_i32_337 : BitVec 32 := 32#32
  let v621 : BitVec 32 := Scalar.remsi v620 c32_i32_337
  let c1_i32_343 : BitVec 32 := 1#32
  let v626 : BitVec 32 := Scalar.muli v621 c1_i32_343
  let v627 : BitVec 32 := Scalar.addi c0_i32_344 v626
  v627.toNat
def k0_dev41 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_347 : BitVec 32 := 10#32
  let v635 : BitVec 32 := Scalar.addi v2 c10_i32_347
  let c32_i32_348 : BitVec 32 := 32#32
  let v636 : BitVec 32 := Scalar.remsi v635 c32_i32_348
  let c1_i32_354 : BitVec 32 := 1#32
  let v641 : BitVec 32 := Scalar.muli v636 c1_i32_354
  let v642 : BitVec 32 := Scalar.addi c0_i32_355 v641
  v642.toNat
def k0_dev42 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_358 : BitVec 32 := 11#32
  let v650 : BitVec 32 := Scalar.addi v2 c11_i32_358
  let c32_i32_359 : BitVec 32 := 32#32
  let v651 : BitVec 32 := Scalar.remsi v650 c32_i32_359
  let c1_i32_365 : BitVec 32 := 1#32
  let v656 : BitVec 32 := Scalar.muli v651 c1_i32_365
  let v657 : BitVec 32 := Scalar.addi c0_i32_366 v656
  v657.toNat
def k0_dev43 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_369 : BitVec 32 := 12#32
  let v665 : BitVec 32 := Scalar.addi v2 c12_i32_369
  let c32_i32_370 : BitVec 32 := 32#32
  let v666 : BitVec 32 := Scalar.remsi v665 c32_i32_370
  let c1_i32_376 : BitVec 32 := 1#32
  let v671 : BitVec 32 := Scalar.muli v666 c1_i32_376
  let v672 : BitVec 32 := Scalar.addi c0_i32_377 v671
  v672.toNat
def k0_dev44 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_380 : BitVec 32 := 13#32
  let v680 : BitVec 32 := Scalar.addi v2 c13_i32_380
  let c32_i32_381 : BitVec 32 := 32#32
  let v681 : BitVec 32 := Scalar.remsi v680 c32_i32_381
  let c1_i32_387 : BitVec 32 := 1#32
  let v686 : BitVec 32 := Scalar.muli v681 c1_i32_387
  let v687 : BitVec 32 := Scalar.addi c0_i32_388 v686
  v687.toNat
def k0_dev45 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_391 : BitVec 32 := 14#32
  let v695 : BitVec 32 := Scalar.addi v2 c14_i32_391
  let c32_i32_392 : BitVec 32 := 32#32
  let v696 : BitVec 32 := Scalar.remsi v695 c32_i32_392
  let c1_i32_398 : BitVec 32 := 1#32
  let v701 : BitVec 32 := Scalar.muli v696 c1_i32_398
  let v702 : BitVec 32 := Scalar.addi c0_i32_399 v701
  v702.toNat
def k0_dev46 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_402 : BitVec 32 := 15#32
  let v710 : BitVec 32 := Scalar.addi v2 c15_i32_402
  let c32_i32_403 : BitVec 32 := 32#32
  let v711 : BitVec 32 := Scalar.remsi v710 c32_i32_403
  let c1_i32_409 : BitVec 32 := 1#32
  let v716 : BitVec 32 := Scalar.muli v711 c1_i32_409
  let v717 : BitVec 32 := Scalar.addi c0_i32_410 v716
  v717.toNat
def k0_dev47 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_413 : BitVec 32 := 16#32
  let v725 : BitVec 32 := Scalar.addi v2 c16_i32_413
  let c32_i32_414 : BitVec 32 := 32#32
  let v726 : BitVec 32 := Scalar.remsi v725 c32_i32_414
  let c1_i32_420 : BitVec 32 := 1#32
  let v731 : BitVec 32 := Scalar.muli v726 c1_i32_420
  let v732 : BitVec 32 := Scalar.addi c0_i32_421 v731
  v732.toNat
def k0_dev48 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_424 : BitVec 32 := 17#32
  let v740 : BitVec 32 := Scalar.addi v2 c17_i32_424
  let c32_i32_425 : BitVec 32 := 32#32
  let v741 : BitVec 32 := Scalar.remsi v740 c32_i32_425
  let c1_i32_431 : BitVec 32 := 1#32
  let v746 : BitVec 32 := Scalar.muli v741 c1_i32_431
  let v747 : BitVec 32 := Scalar.addi c0_i32_432 v746
  v747.toNat
def k0_dev49 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_435 : BitVec 32 := 18#32
  let v755 : BitVec 32 := Scalar.addi v2 c18_i32_435
  let c32_i32_436 : BitVec 32 := 32#32
  let v756 : BitVec 32 := Scalar.remsi v755 c32_i32_436
  let c1_i32_442 : BitVec 32 := 1#32
  let v761 : BitVec 32 := Scalar.muli v756 c1_i32_442
  let v762 : BitVec 32 := Scalar.addi c0_i32_443 v761
  v762.toNat
def k0_dev50 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_446 : BitVec 32 := 19#32
  let v770 : BitVec 32 := Scalar.addi v2 c19_i32_446
  let c32_i32_447 : BitVec 32 := 32#32
  let v771 : BitVec 32 := Scalar.remsi v770 c32_i32_447
  let c1_i32_453 : BitVec 32 := 1#32
  let v776 : BitVec 32 := Scalar.muli v771 c1_i32_453
  let v777 : BitVec 32 := Scalar.addi c0_i32_454 v776
  v777.toNat
def k0_dev51 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_457 : BitVec 32 := 20#32
  let v785 : BitVec 32 := Scalar.addi v2 c20_i32_457
  let c32_i32_458 : BitVec 32 := 32#32
  let v786 : BitVec 32 := Scalar.remsi v785 c32_i32_458
  let c1_i32_464 : BitVec 32 := 1#32
  let v791 : BitVec 32 := Scalar.muli v786 c1_i32_464
  let v792 : BitVec 32 := Scalar.addi c0_i32_465 v791
  v792.toNat
def k0_dev52 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_468 : BitVec 32 := 21#32
  let v800 : BitVec 32 := Scalar.addi v2 c21_i32_468
  let c32_i32_469 : BitVec 32 := 32#32
  let v801 : BitVec 32 := Scalar.remsi v800 c32_i32_469
  let c1_i32_475 : BitVec 32 := 1#32
  let v806 : BitVec 32 := Scalar.muli v801 c1_i32_475
  let v807 : BitVec 32 := Scalar.addi c0_i32_476 v806
  v807.toNat
def k0_dev53 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_479 : BitVec 32 := 22#32
  let v815 : BitVec 32 := Scalar.addi v2 c22_i32_479
  let c32_i32_480 : BitVec 32 := 32#32
  let v816 : BitVec 32 := Scalar.remsi v815 c32_i32_480
  let c1_i32_486 : BitVec 32 := 1#32
  let v821 : BitVec 32 := Scalar.muli v816 c1_i32_486
  let v822 : BitVec 32 := Scalar.addi c0_i32_487 v821
  v822.toNat
def k0_dev54 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_490 : BitVec 32 := 23#32
  let v830 : BitVec 32 := Scalar.addi v2 c23_i32_490
  let c32_i32_491 : BitVec 32 := 32#32
  let v831 : BitVec 32 := Scalar.remsi v830 c32_i32_491
  let c1_i32_497 : BitVec 32 := 1#32
  let v836 : BitVec 32 := Scalar.muli v831 c1_i32_497
  let v837 : BitVec 32 := Scalar.addi c0_i32_498 v836
  v837.toNat
def k0_dev55 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_501 : BitVec 32 := 24#32
  let v845 : BitVec 32 := Scalar.addi v2 c24_i32_501
  let c32_i32_502 : BitVec 32 := 32#32
  let v846 : BitVec 32 := Scalar.remsi v845 c32_i32_502
  let c1_i32_508 : BitVec 32 := 1#32
  let v851 : BitVec 32 := Scalar.muli v846 c1_i32_508
  let v852 : BitVec 32 := Scalar.addi c0_i32_509 v851
  v852.toNat
def k0_dev56 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_512 : BitVec 32 := 25#32
  let v860 : BitVec 32 := Scalar.addi v2 c25_i32_512
  let c32_i32_513 : BitVec 32 := 32#32
  let v861 : BitVec 32 := Scalar.remsi v860 c32_i32_513
  let c1_i32_519 : BitVec 32 := 1#32
  let v866 : BitVec 32 := Scalar.muli v861 c1_i32_519
  let v867 : BitVec 32 := Scalar.addi c0_i32_520 v866
  v867.toNat
def k0_dev57 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_523 : BitVec 32 := 26#32
  let v875 : BitVec 32 := Scalar.addi v2 c26_i32_523
  let c32_i32_524 : BitVec 32 := 32#32
  let v876 : BitVec 32 := Scalar.remsi v875 c32_i32_524
  let c1_i32_530 : BitVec 32 := 1#32
  let v881 : BitVec 32 := Scalar.muli v876 c1_i32_530
  let v882 : BitVec 32 := Scalar.addi c0_i32_531 v881
  v882.toNat
def k0_dev58 (d0 : Dev nD) : Nat :=
  let c0_i32_542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_534 : BitVec 32 := 27#32
  let v890 : BitVec 32 := Scalar.addi v2 c27_i32_534
  let c32_i32_535 : BitVec 32 := 32#32
  let v891 : BitVec 32 := Scalar.remsi v890 c32_i32_535
  let c1_i32_541 : BitVec 32 := 1#32
  let v896 : BitVec 32 := Scalar.muli v891 c1_i32_541
  let v897 : BitVec 32 := Scalar.addi c0_i32_542 v896
  v897.toNat
def k0_dev59 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_545 : BitVec 32 := 28#32
  let v905 : BitVec 32 := Scalar.addi v2 c28_i32_545
  let c32_i32_546 : BitVec 32 := 32#32
  let v906 : BitVec 32 := Scalar.remsi v905 c32_i32_546
  let c1_i32_552 : BitVec 32 := 1#32
  let v911 : BitVec 32 := Scalar.muli v906 c1_i32_552
  let v912 : BitVec 32 := Scalar.addi c0_i32_553 v911
  v912.toNat
def k0_dev60 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_556 : BitVec 32 := 29#32
  let v920 : BitVec 32 := Scalar.addi v2 c29_i32_556
  let c32_i32_557 : BitVec 32 := 32#32
  let v921 : BitVec 32 := Scalar.remsi v920 c32_i32_557
  let c1_i32_563 : BitVec 32 := 1#32
  let v926 : BitVec 32 := Scalar.muli v921 c1_i32_563
  let v927 : BitVec 32 := Scalar.addi c0_i32_564 v926
  v927.toNat
def k0_dev61 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_567 : BitVec 32 := 30#32
  let v935 : BitVec 32 := Scalar.addi v2 c30_i32_567
  let c32_i32_568 : BitVec 32 := 32#32
  let v936 : BitVec 32 := Scalar.remsi v935 c32_i32_568
  let c1_i32_574 : BitVec 32 := 1#32
  let v941 : BitVec 32 := Scalar.muli v936 c1_i32_574
  let v942 : BitVec 32 := Scalar.addi c0_i32_575 v941
  v942.toNat
def k0_dev62 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_578 : BitVec 32 := 31#32
  let v950 : BitVec 32 := Scalar.addi v2 c31_i32_578
  let c32_i32_579 : BitVec 32 := 32#32
  let v951 : BitVec 32 := Scalar.remsi v950 c32_i32_579
  let c1_i32_585 : BitVec 32 := 1#32
  let v956 : BitVec 32 := Scalar.muli v951 c1_i32_585
  let v957 : BitVec 32 := Scalar.addi c0_i32_586 v956
  v957.toNat
def k0_off4 (d0 : Dev nD) : Fin 2 → Nat :=
  let c16_i32_590 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_589 : BitVec 32 := 2#32
  let v965 : BitVec 32 := Scalar.divsi v2 c2_i32_589
  let v966 : BitVec 32 := Scalar.muli c16_i32_590 v965
  let v969 : Index := Scalar.indexCast v966
  let c256_i32_592 : BitVec 32 := 256#32
  let c2_i32_591 : BitVec 32 := 2#32
  let v967 : BitVec 32 := Scalar.remsi v2 c2_i32_591
  let v968 : BitVec 32 := Scalar.muli c256_i32_592 v967
  let v970 : Index := Scalar.indexCast v968
  ![v969.toNat, v970.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v972 : Index := Scalar.indexCast v2
  let c0_593 : Index := 0#32
  let c0_594 : Index := 0#32
  ![v972.toNat, 0, 0]
def k0_off6 (d0 : Dev nD) (c1_i32_598 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_597 : BitVec 32 := 32#32
  let v980 : BitVec 32 := Scalar.addi v2 c32_i32_597
  let v981 : BitVec 32 := Scalar.subi v980 c1_i32_598
  let c32_i32_599 : BitVec 32 := 32#32
  let v982 : BitVec 32 := Scalar.remsi v981 c32_i32_599
  ![v982.toNat]
def k0_off7 (d0 : Dev nD) (c1_i32_598 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_597 : BitVec 32 := 32#32
  let v980 : BitVec 32 := Scalar.addi v2 c32_i32_597
  let v981 : BitVec 32 := Scalar.subi v980 c1_i32_598
  let c32_i32_599 : BitVec 32 := 32#32
  let v982 : BitVec 32 := Scalar.remsi v981 c32_i32_599
  let c0_i32_603 : BitVec 32 := 0#32
  let c0_i32_604 : BitVec 32 := 0#32
  ![v982.toNat, 0, 0]
def k0_off8 (d0 : Dev nD) (c1_i32_598 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_597 : BitVec 32 := 32#32
  let v980 : BitVec 32 := Scalar.addi v2 c32_i32_597
  let v981 : BitVec 32 := Scalar.subi v980 c1_i32_598
  let c32_i32_599 : BitVec 32 := 32#32
  let v982 : BitVec 32 := Scalar.remsi v981 c32_i32_599
  let v990 : Index := Scalar.indexCast v982
  let c0_607 : Index := 0#32
  let c0_608 : Index := 0#32
  ![v990.toNat, 0, 0]
def k0_off9 (d0 : Dev nD) : Fin 3 → Nat :=
  let c16_i32_590 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_589 : BitVec 32 := 2#32
  let v965 : BitVec 32 := Scalar.divsi v2 c2_i32_589
  let v966 : BitVec 32 := Scalar.muli c16_i32_590 v965
  let c128_i32 : BitVec 32 := 128#32
  let v1604 : BitVec 32 := Scalar.divsi v966 c128_i32
  let c128_i32_1095 : BitVec 32 := 128#32
  let v1605 : BitVec 32 := Scalar.remsi v966 c128_i32_1095
  let c256_i32_592 : BitVec 32 := 256#32
  let c2_i32_591 : BitVec 32 := 2#32
  let v967 : BitVec 32 := Scalar.remsi v2 c2_i32_591
  let v968 : BitVec 32 := Scalar.muli c256_i32_592 v967
  ![v1604.toNat, v1605.toNat, v968.toNat]
def k0_dev63 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1096 : BitVec 32 := 1#32
  let v1606 : BitVec 32 := Scalar.addi v2 c1_i32_1096
  let c32_i32_1097 : BitVec 32 := 32#32
  let v1607 : BitVec 32 := Scalar.remsi v1606 c32_i32_1097
  let c1_i32_1099 : BitVec 32 := 1#32
  let v1608 : BitVec 32 := Scalar.muli v1607 c1_i32_1099
  let v1609 : BitVec 32 := Scalar.addi c0_i32_1100 v1608
  v1609.toNat
def k0_dev64 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1101 : BitVec 32 := 2#32
  let v1616 : BitVec 32 := Scalar.addi v2 c2_i32_1101
  let c32_i32_1102 : BitVec 32 := 32#32
  let v1617 : BitVec 32 := Scalar.remsi v1616 c32_i32_1102
  let c1_i32_1104 : BitVec 32 := 1#32
  let v1618 : BitVec 32 := Scalar.muli v1617 c1_i32_1104
  let v1619 : BitVec 32 := Scalar.addi c0_i32_1105 v1618
  v1619.toNat
def k0_dev65 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1106 : BitVec 32 := 3#32
  let v1626 : BitVec 32 := Scalar.addi v2 c3_i32_1106
  let c32_i32_1107 : BitVec 32 := 32#32
  let v1627 : BitVec 32 := Scalar.remsi v1626 c32_i32_1107
  let c1_i32_1109 : BitVec 32 := 1#32
  let v1628 : BitVec 32 := Scalar.muli v1627 c1_i32_1109
  let v1629 : BitVec 32 := Scalar.addi c0_i32_1110 v1628
  v1629.toNat
def k0_dev66 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1111 : BitVec 32 := 4#32
  let v1636 : BitVec 32 := Scalar.addi v2 c4_i32_1111
  let c32_i32_1112 : BitVec 32 := 32#32
  let v1637 : BitVec 32 := Scalar.remsi v1636 c32_i32_1112
  let c1_i32_1114 : BitVec 32 := 1#32
  let v1638 : BitVec 32 := Scalar.muli v1637 c1_i32_1114
  let v1639 : BitVec 32 := Scalar.addi c0_i32_1115 v1638
  v1639.toNat
def k0_dev67 (d0 : Dev nD) : Nat :=
  let c0_i32_1120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1116 : BitVec 32 := 5#32
  let v1646 : BitVec 32 := Scalar.addi v2 c5_i32_1116
  let c32_i32_1117 : BitVec 32 := 32#32
  let v1647 : BitVec 32 := Scalar.remsi v1646 c32_i32_1117
  let c1_i32_1119 : BitVec 32 := 1#32
  let v1648 : BitVec 32 := Scalar.muli v1647 c1_i32_1119
  let v1649 : BitVec 32 := Scalar.addi c0_i32_1120 v1648
  v1649.toNat
def k0_dev68 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1121 : BitVec 32 := 6#32
  let v1656 : BitVec 32 := Scalar.addi v2 c6_i32_1121
  let c32_i32_1122 : BitVec 32 := 32#32
  let v1657 : BitVec 32 := Scalar.remsi v1656 c32_i32_1122
  let c1_i32_1124 : BitVec 32 := 1#32
  let v1658 : BitVec 32 := Scalar.muli v1657 c1_i32_1124
  let v1659 : BitVec 32 := Scalar.addi c0_i32_1125 v1658
  v1659.toNat
def k0_dev69 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1126 : BitVec 32 := 7#32
  let v1666 : BitVec 32 := Scalar.addi v2 c7_i32_1126
  let c32_i32_1127 : BitVec 32 := 32#32
  let v1667 : BitVec 32 := Scalar.remsi v1666 c32_i32_1127
  let c1_i32_1129 : BitVec 32 := 1#32
  let v1668 : BitVec 32 := Scalar.muli v1667 c1_i32_1129
  let v1669 : BitVec 32 := Scalar.addi c0_i32_1130 v1668
  v1669.toNat
def k0_dev70 (d0 : Dev nD) : Nat :=
  let c0_i32_1135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1131 : BitVec 32 := 8#32
  let v1676 : BitVec 32 := Scalar.addi v2 c8_i32_1131
  let c32_i32_1132 : BitVec 32 := 32#32
  let v1677 : BitVec 32 := Scalar.remsi v1676 c32_i32_1132
  let c1_i32_1134 : BitVec 32 := 1#32
  let v1678 : BitVec 32 := Scalar.muli v1677 c1_i32_1134
  let v1679 : BitVec 32 := Scalar.addi c0_i32_1135 v1678
  v1679.toNat
def k0_dev71 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1136 : BitVec 32 := 9#32
  let v1686 : BitVec 32 := Scalar.addi v2 c9_i32_1136
  let c32_i32_1137 : BitVec 32 := 32#32
  let v1687 : BitVec 32 := Scalar.remsi v1686 c32_i32_1137
  let c1_i32_1139 : BitVec 32 := 1#32
  let v1688 : BitVec 32 := Scalar.muli v1687 c1_i32_1139
  let v1689 : BitVec 32 := Scalar.addi c0_i32_1140 v1688
  v1689.toNat
def k0_dev72 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1141 : BitVec 32 := 10#32
  let v1696 : BitVec 32 := Scalar.addi v2 c10_i32_1141
  let c32_i32_1142 : BitVec 32 := 32#32
  let v1697 : BitVec 32 := Scalar.remsi v1696 c32_i32_1142
  let c1_i32_1144 : BitVec 32 := 1#32
  let v1698 : BitVec 32 := Scalar.muli v1697 c1_i32_1144
  let v1699 : BitVec 32 := Scalar.addi c0_i32_1145 v1698
  v1699.toNat
def k0_dev73 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1146 : BitVec 32 := 11#32
  let v1706 : BitVec 32 := Scalar.addi v2 c11_i32_1146
  let c32_i32_1147 : BitVec 32 := 32#32
  let v1707 : BitVec 32 := Scalar.remsi v1706 c32_i32_1147
  let c1_i32_1149 : BitVec 32 := 1#32
  let v1708 : BitVec 32 := Scalar.muli v1707 c1_i32_1149
  let v1709 : BitVec 32 := Scalar.addi c0_i32_1150 v1708
  v1709.toNat
def k0_dev74 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1151 : BitVec 32 := 12#32
  let v1716 : BitVec 32 := Scalar.addi v2 c12_i32_1151
  let c32_i32_1152 : BitVec 32 := 32#32
  let v1717 : BitVec 32 := Scalar.remsi v1716 c32_i32_1152
  let c1_i32_1154 : BitVec 32 := 1#32
  let v1718 : BitVec 32 := Scalar.muli v1717 c1_i32_1154
  let v1719 : BitVec 32 := Scalar.addi c0_i32_1155 v1718
  v1719.toNat
def k0_dev75 (d0 : Dev nD) : Nat :=
  let c0_i32_1160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1156 : BitVec 32 := 13#32
  let v1726 : BitVec 32 := Scalar.addi v2 c13_i32_1156
  let c32_i32_1157 : BitVec 32 := 32#32
  let v1727 : BitVec 32 := Scalar.remsi v1726 c32_i32_1157
  let c1_i32_1159 : BitVec 32 := 1#32
  let v1728 : BitVec 32 := Scalar.muli v1727 c1_i32_1159
  let v1729 : BitVec 32 := Scalar.addi c0_i32_1160 v1728
  v1729.toNat
def k0_dev76 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1161 : BitVec 32 := 14#32
  let v1736 : BitVec 32 := Scalar.addi v2 c14_i32_1161
  let c32_i32_1162 : BitVec 32 := 32#32
  let v1737 : BitVec 32 := Scalar.remsi v1736 c32_i32_1162
  let c1_i32_1164 : BitVec 32 := 1#32
  let v1738 : BitVec 32 := Scalar.muli v1737 c1_i32_1164
  let v1739 : BitVec 32 := Scalar.addi c0_i32_1165 v1738
  v1739.toNat
def k0_dev77 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1166 : BitVec 32 := 15#32
  let v1746 : BitVec 32 := Scalar.addi v2 c15_i32_1166
  let c32_i32_1167 : BitVec 32 := 32#32
  let v1747 : BitVec 32 := Scalar.remsi v1746 c32_i32_1167
  let c1_i32_1169 : BitVec 32 := 1#32
  let v1748 : BitVec 32 := Scalar.muli v1747 c1_i32_1169
  let v1749 : BitVec 32 := Scalar.addi c0_i32_1170 v1748
  v1749.toNat
def k0_dev78 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1171 : BitVec 32 := 16#32
  let v1756 : BitVec 32 := Scalar.addi v2 c16_i32_1171
  let c32_i32_1172 : BitVec 32 := 32#32
  let v1757 : BitVec 32 := Scalar.remsi v1756 c32_i32_1172
  let c1_i32_1174 : BitVec 32 := 1#32
  let v1758 : BitVec 32 := Scalar.muli v1757 c1_i32_1174
  let v1759 : BitVec 32 := Scalar.addi c0_i32_1175 v1758
  v1759.toNat
def k0_dev79 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1176 : BitVec 32 := 17#32
  let v1766 : BitVec 32 := Scalar.addi v2 c17_i32_1176
  let c32_i32_1177 : BitVec 32 := 32#32
  let v1767 : BitVec 32 := Scalar.remsi v1766 c32_i32_1177
  let c1_i32_1179 : BitVec 32 := 1#32
  let v1768 : BitVec 32 := Scalar.muli v1767 c1_i32_1179
  let v1769 : BitVec 32 := Scalar.addi c0_i32_1180 v1768
  v1769.toNat
def k0_dev80 (d0 : Dev nD) : Nat :=
  let c0_i32_1185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1181 : BitVec 32 := 18#32
  let v1776 : BitVec 32 := Scalar.addi v2 c18_i32_1181
  let c32_i32_1182 : BitVec 32 := 32#32
  let v1777 : BitVec 32 := Scalar.remsi v1776 c32_i32_1182
  let c1_i32_1184 : BitVec 32 := 1#32
  let v1778 : BitVec 32 := Scalar.muli v1777 c1_i32_1184
  let v1779 : BitVec 32 := Scalar.addi c0_i32_1185 v1778
  v1779.toNat
def k0_dev81 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1186 : BitVec 32 := 19#32
  let v1786 : BitVec 32 := Scalar.addi v2 c19_i32_1186
  let c32_i32_1187 : BitVec 32 := 32#32
  let v1787 : BitVec 32 := Scalar.remsi v1786 c32_i32_1187
  let c1_i32_1189 : BitVec 32 := 1#32
  let v1788 : BitVec 32 := Scalar.muli v1787 c1_i32_1189
  let v1789 : BitVec 32 := Scalar.addi c0_i32_1190 v1788
  v1789.toNat
def k0_dev82 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1191 : BitVec 32 := 20#32
  let v1796 : BitVec 32 := Scalar.addi v2 c20_i32_1191
  let c32_i32_1192 : BitVec 32 := 32#32
  let v1797 : BitVec 32 := Scalar.remsi v1796 c32_i32_1192
  let c1_i32_1194 : BitVec 32 := 1#32
  let v1798 : BitVec 32 := Scalar.muli v1797 c1_i32_1194
  let v1799 : BitVec 32 := Scalar.addi c0_i32_1195 v1798
  v1799.toNat
def k0_dev83 (d0 : Dev nD) : Nat :=
  let c0_i32_1200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1196 : BitVec 32 := 21#32
  let v1806 : BitVec 32 := Scalar.addi v2 c21_i32_1196
  let c32_i32_1197 : BitVec 32 := 32#32
  let v1807 : BitVec 32 := Scalar.remsi v1806 c32_i32_1197
  let c1_i32_1199 : BitVec 32 := 1#32
  let v1808 : BitVec 32 := Scalar.muli v1807 c1_i32_1199
  let v1809 : BitVec 32 := Scalar.addi c0_i32_1200 v1808
  v1809.toNat
def k0_dev84 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1201 : BitVec 32 := 22#32
  let v1816 : BitVec 32 := Scalar.addi v2 c22_i32_1201
  let c32_i32_1202 : BitVec 32 := 32#32
  let v1817 : BitVec 32 := Scalar.remsi v1816 c32_i32_1202
  let c1_i32_1204 : BitVec 32 := 1#32
  let v1818 : BitVec 32 := Scalar.muli v1817 c1_i32_1204
  let v1819 : BitVec 32 := Scalar.addi c0_i32_1205 v1818
  v1819.toNat
def k0_dev85 (d0 : Dev nD) : Nat :=
  let c0_i32_1210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1206 : BitVec 32 := 23#32
  let v1826 : BitVec 32 := Scalar.addi v2 c23_i32_1206
  let c32_i32_1207 : BitVec 32 := 32#32
  let v1827 : BitVec 32 := Scalar.remsi v1826 c32_i32_1207
  let c1_i32_1209 : BitVec 32 := 1#32
  let v1828 : BitVec 32 := Scalar.muli v1827 c1_i32_1209
  let v1829 : BitVec 32 := Scalar.addi c0_i32_1210 v1828
  v1829.toNat
def k0_dev86 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1211 : BitVec 32 := 24#32
  let v1836 : BitVec 32 := Scalar.addi v2 c24_i32_1211
  let c32_i32_1212 : BitVec 32 := 32#32
  let v1837 : BitVec 32 := Scalar.remsi v1836 c32_i32_1212
  let c1_i32_1214 : BitVec 32 := 1#32
  let v1838 : BitVec 32 := Scalar.muli v1837 c1_i32_1214
  let v1839 : BitVec 32 := Scalar.addi c0_i32_1215 v1838
  v1839.toNat
def k0_dev87 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1216 : BitVec 32 := 25#32
  let v1846 : BitVec 32 := Scalar.addi v2 c25_i32_1216
  let c32_i32_1217 : BitVec 32 := 32#32
  let v1847 : BitVec 32 := Scalar.remsi v1846 c32_i32_1217
  let c1_i32_1219 : BitVec 32 := 1#32
  let v1848 : BitVec 32 := Scalar.muli v1847 c1_i32_1219
  let v1849 : BitVec 32 := Scalar.addi c0_i32_1220 v1848
  v1849.toNat
def k0_dev88 (d0 : Dev nD) : Nat :=
  let c0_i32_1225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1221 : BitVec 32 := 26#32
  let v1856 : BitVec 32 := Scalar.addi v2 c26_i32_1221
  let c32_i32_1222 : BitVec 32 := 32#32
  let v1857 : BitVec 32 := Scalar.remsi v1856 c32_i32_1222
  let c1_i32_1224 : BitVec 32 := 1#32
  let v1858 : BitVec 32 := Scalar.muli v1857 c1_i32_1224
  let v1859 : BitVec 32 := Scalar.addi c0_i32_1225 v1858
  v1859.toNat
def k0_dev89 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1226 : BitVec 32 := 27#32
  let v1866 : BitVec 32 := Scalar.addi v2 c27_i32_1226
  let c32_i32_1227 : BitVec 32 := 32#32
  let v1867 : BitVec 32 := Scalar.remsi v1866 c32_i32_1227
  let c1_i32_1229 : BitVec 32 := 1#32
  let v1868 : BitVec 32 := Scalar.muli v1867 c1_i32_1229
  let v1869 : BitVec 32 := Scalar.addi c0_i32_1230 v1868
  v1869.toNat
def k0_dev90 (d0 : Dev nD) : Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1231 : BitVec 32 := 28#32
  let v1876 : BitVec 32 := Scalar.addi v2 c28_i32_1231
  let c32_i32_1232 : BitVec 32 := 32#32
  let v1877 : BitVec 32 := Scalar.remsi v1876 c32_i32_1232
  let c1_i32_1234 : BitVec 32 := 1#32
  let v1878 : BitVec 32 := Scalar.muli v1877 c1_i32_1234
  let v1879 : BitVec 32 := Scalar.addi c0_i32_1235 v1878
  v1879.toNat
def k0_dev91 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1236 : BitVec 32 := 29#32
  let v1886 : BitVec 32 := Scalar.addi v2 c29_i32_1236
  let c32_i32_1237 : BitVec 32 := 32#32
  let v1887 : BitVec 32 := Scalar.remsi v1886 c32_i32_1237
  let c1_i32_1239 : BitVec 32 := 1#32
  let v1888 : BitVec 32 := Scalar.muli v1887 c1_i32_1239
  let v1889 : BitVec 32 := Scalar.addi c0_i32_1240 v1888
  v1889.toNat
def k0_dev92 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1241 : BitVec 32 := 30#32
  let v1896 : BitVec 32 := Scalar.addi v2 c30_i32_1241
  let c32_i32_1242 : BitVec 32 := 32#32
  let v1897 : BitVec 32 := Scalar.remsi v1896 c32_i32_1242
  let c1_i32_1244 : BitVec 32 := 1#32
  let v1898 : BitVec 32 := Scalar.muli v1897 c1_i32_1244
  let v1899 : BitVec 32 := Scalar.addi c0_i32_1245 v1898
  v1899.toNat
def k0_dev93 (d0 : Dev nD) : Nat :=
  let c0_i32_1250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1246 : BitVec 32 := 31#32
  let v1906 : BitVec 32 := Scalar.addi v2 c31_i32_1246
  let c32_i32_1247 : BitVec 32 := 32#32
  let v1907 : BitVec 32 := Scalar.remsi v1906 c32_i32_1247
  let c1_i32_1249 : BitVec 32 := 1#32
  let v1908 : BitVec 32 := Scalar.muli v1907 c1_i32_1249
  let v1909 : BitVec 32 := Scalar.addi c0_i32_1250 v1908
  v1909.toNat
def k0_off10 (d0 : Dev nD) : Fin 3 → Nat :=
  let c16_i32_590 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_589 : BitVec 32 := 2#32
  let v965 : BitVec 32 := Scalar.divsi v2 c2_i32_589
  let v966 : BitVec 32 := Scalar.muli c16_i32_590 v965
  let c128_i32 : BitVec 32 := 128#32
  let v1604 : BitVec 32 := Scalar.divsi v966 c128_i32
  let v1917 : Index := Scalar.indexCast v1604
  let c128_i32_1095 : BitVec 32 := 128#32
  let v1605 : BitVec 32 := Scalar.remsi v966 c128_i32_1095
  let v1918 : Index := Scalar.indexCast v1605
  let c256_i32_592 : BitVec 32 := 256#32
  let c2_i32_591 : BitVec 32 := 2#32
  let v967 : BitVec 32 := Scalar.remsi v2 c2_i32_591
  let v968 : BitVec 32 := Scalar.muli c256_i32_592 v967
  let v1919 : Index := Scalar.indexCast v968
  ![v1917.toNat, v1918.toNat, v1919.toNat]
def k0_off11 (d0 : Dev nD) (c1_i32_1254 : BitVec 32) : Fin 3 → Nat :=
  let c16_i32_1257 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1253 : BitVec 32 := 32#32
  let v1923 : BitVec 32 := Scalar.addi v2 c32_i32_1253
  let v1924 : BitVec 32 := Scalar.subi v1923 c1_i32_1254
  let c32_i32_1255 : BitVec 32 := 32#32
  let v1925 : BitVec 32 := Scalar.remsi v1924 c32_i32_1255
  let c2_i32_1256 : BitVec 32 := 2#32
  let v1926 : BitVec 32 := Scalar.divsi v1925 c2_i32_1256
  let v1927 : BitVec 32 := Scalar.muli c16_i32_1257 v1926
  let c128_i32_1258 : BitVec 32 := 128#32
  let v1928 : BitVec 32 := Scalar.divsi v1927 c128_i32_1258
  let c128_i32_1259 : BitVec 32 := 128#32
  let v1929 : BitVec 32 := Scalar.remsi v1927 c128_i32_1259
  let c256_i32_1261 : BitVec 32 := 256#32
  let c2_i32_1260 : BitVec 32 := 2#32
  let v1930 : BitVec 32 := Scalar.remsi v1925 c2_i32_1260
  let v1931 : BitVec 32 := Scalar.muli c256_i32_1261 v1930
  ![v1928.toNat, v1929.toNat, v1931.toNat]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x16384 : Shape := ⟨2, ![512, 16384]⟩
abbrev S2x128x256x64 : Shape := ⟨4, ![2, 128, 256, 64]⟩
abbrev S16384x512 : Shape := ⟨2, ![16384, 512]⟩
abbrev S2x128x16384 : Shape := ⟨3, ![2, 128, 16384]⟩
abbrev S_ : Shape := ⟨0, ![]⟩
abbrev S2x256x128x1 : Shape := ⟨4, ![2, 256, 128, 1]⟩
abbrev S2x256x128x128 : Shape := ⟨4, ![2, 256, 128, 128]⟩
abbrev S2x256x128 : Shape := ⟨3, ![2, 256, 128]⟩
abbrev S2x128x256x1 : Shape := ⟨4, ![2, 128, 256, 1]⟩
abbrev S2x256x64x128 : Shape := ⟨4, ![2, 256, 64, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x16384, .bf16⟩
  | .hbm, ⟨2, _⟩ => ⟨S2x128x256x64, .bf16⟩
  | .hbm, ⟨3, _⟩ => ⟨S2x128x256x64, .bf16⟩
  | .hbm, ⟨4, _⟩ => ⟨S16384x512, .bf16⟩
  | .hbm, ⟨5, _⟩ => ⟨S2x128x512, .f32⟩
  | .hbm, ⟨6, _⟩ => ⟨S512x16384, .f32⟩
  | .hbm, ⟨7, _⟩ => ⟨S2x128x256x64, .f32⟩
  | .hbm, ⟨8, _⟩ => ⟨S2x128x256x64, .f32⟩
  | .hbm, ⟨9, _⟩ => ⟨S16384x512, .f32⟩
  | .hbm, ⟨10, _⟩ => ⟨S2x128x16384, .f32⟩
  | .hbm, ⟨11, _⟩ => ⟨S2x128x256x64, .f32⟩
  | .hbm, ⟨12, _⟩ => ⟨S_, .f32⟩
  | .hbm, ⟨13, _⟩ => ⟨S2x128x256x64, .f32⟩
  | .hbm, ⟨14, _⟩ => ⟨S_, .f32⟩
  | .hbm, ⟨15, _⟩ => ⟨S2x256x128x1, .f32⟩
  | .hbm, ⟨16, _⟩ => ⟨S_, .f32⟩
  | .hbm, ⟨17, _⟩ => ⟨S2x256x128x1, .f32⟩
  | .hbm, ⟨18, _⟩ => ⟨S2x256x128x128, .f32⟩
  | .hbm, ⟨19, _⟩ => ⟨S_, .f32⟩
  | .hbm, ⟨20, _⟩ => ⟨S2x256x128x128, .f32⟩
  | .hbm, ⟨21, _⟩ => ⟨S2x256x128x128, .f32⟩
  | .hbm, ⟨22, _⟩ => ⟨S_, .f32⟩
  | .hbm, ⟨23, _⟩ => ⟨S2x256x128, .f32⟩
  | .hbm, ⟨24, _⟩ => ⟨S2x256x128x1, .f32⟩
  | .hbm, ⟨25, _⟩ => ⟨S2x256x128x1, .f32⟩
  | .hbm, ⟨26, _⟩ => ⟨S2x256x128x1, .f32⟩
  | .hbm, ⟨27, _⟩ => ⟨S2x256x128x1, .f32⟩
  | .hbm, ⟨28, _⟩ => ⟨S2x256x128x128, .f32⟩
  | .hbm, ⟨29, _⟩ => ⟨S2x256x128x128, .f32⟩
  | .hbm, ⟨30, _⟩ => ⟨S2x256x128x128, .f32⟩
  | .hbm, ⟨31, _⟩ => ⟨S2x256x128x1, .f32⟩
  | .hbm, ⟨32, _⟩ => ⟨S_, .f32⟩
  | .hbm, ⟨33, _⟩ => ⟨S2x256x128, .f32⟩
  | .hbm, ⟨34, _⟩ => ⟨S2x256x128x1, .f32⟩
  | .hbm, ⟨35, _⟩ => ⟨S2x256x128x1, .f32⟩
  | .hbm, ⟨36, _⟩ => ⟨S2x128x256x1, .f32⟩
  | .hbm, ⟨37, _⟩ => ⟨S2x128x256x64, .f32⟩
  | .hbm, ⟨38, _⟩ => ⟨S2x128x256x64, .f32⟩
  | .hbm, ⟨39, _⟩ => ⟨S2x256x64x128, .f32⟩
  | .hbm, ⟨40, _⟩ => ⟨S2x128x256x64, .f32⟩
  | .hbm, ⟨41, _⟩ => ⟨S2x128x256x64, .f32⟩
  | .hbm, ⟨42, _⟩ => ⟨S2x128x256x1, .f32⟩
  | .hbm, ⟨43, _⟩ => ⟨S2x128x256x64, .f32⟩
  | .hbm, ⟨44, _⟩ => ⟨S2x128x256x64, .f32⟩
  | .hbm, ⟨45, _⟩ => ⟨S2x128x16384, .f32⟩
  | .hbm, ⟨46, _⟩ => ⟨S2x128x512, .f32⟩
  | .hbm, ⟨47, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Loops.lean ====
/-
The kernel body in loop form.

The printed body is straight-line: every loop over the 31 peers of a device, and the loop over the two batches and
eight heads of the attention, is unrolled. Here each is written once, at a symbolic peer step `r : Fin 31` (the step
`s = r + 1` of the source) or a symbolic batch and head, as a recursion over a list; `body_eq_loops` says that the
printed body is the result, by unfolding definitions.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.KProof

open Cert.KernelIdeal Cert.KernelIdeal.Gen
open Idealize.ShloMosaic Idealize.ShloMosaic.TcCoe
open Idealize.SL Idealize.SL.Sem

variable {F : FTy → Type} [FloatOps F]

/-! ## Peers -/

/-- The word the kernel adds to its position at peer step `r`: `r + 1`. -/
def peerW (r : Fin 31) : BitVec 32 := BitVec.ofNat 32 (1 + r.val)

/-- The device addressed at peer step `r`, as the kernel computes it. -/
def peerN (c : Dev nD) (r : Fin 31) : ℕ :=
  (Scalar.addi 0#32 (Scalar.muli (Scalar.remsi (Scalar.addi (Scalar.remsi (Scalar.divsi (Dev.word c) 1#32) 32#32) (peerW r)) 32#32) 1#32)).toNat

theorem peerN_eq : ∀ (c : Dev nD) (r : Fin 31), peerN c r = (c.val + r.val + 1) % 32 := by decide +kernel
theorem peerN_lt (c : Dev nD) (r : Fin 31) : peerN c r < nD := by
  rw [peerN_eq]; exact Nat.mod_lt _ (by decide)

theorem inb_step : ∀ (r : Fin 31) (a : Fin 1), (![1 + r.val] : Fin 1 → ℕ) a + S1.size a ≤ S32.size a := by decide +kernel

/-- The peer steps, in program order. -/
def steps : List (Fin 31) :=
  [0, 1, 2, 3, 4, 5, 6, 7, 8, 9, 10, 11, 12, 13, 14, 15, 16, 17, 18, 19, 20, 21, 22, 23, 24, 25, 26, 27, 28, 29, 30]

theorem steps_nodup : steps.Nodup := by decide
theorem mem_steps (r : Fin 31) : r ∈ steps := by revert r; decide

/-! ## Heads -/

/-- The head blocks, in program order: batch, then head. -/
def heads : List (Fin 2 × Fin 8) :=
  [(0, 0), (0, 1), (0, 2), (0, 3), (0, 4), (0, 5), (0, 6), (0, 7), (1, 0), (1, 1), (1, 2), (1, 3), (1, 4), (1, 5), (1, 6), (1, 7)]

/-- Where head block `x` starts among the 256 rows (two batches of 128) and 512 columns (eight heads of 64). -/
def headOff (x : Fin 2 × Fin 8) : Fin 2 → ℕ := ![128 * x.1.val, 64 * x.2.val]

theorem headOff_inb : ∀ (x : Fin 2 × Fin 8) (a : Fin 2), headOff x a + S128x64.size a ≤ S256x512.size a := by decide +kernel
theorem headOff_packed : ∀ x : Fin 2 × Fin 8,
    (Rect.unit (s := S256x512) (headOff x) S128x64.size (headOff_inb x)).PackedRows (EltTy.packing .bf16) := by decide +kernel
theorem headOff_slices : ∀ x : Fin 2 × Fin 8, S256x512.Slices (headOff x) S128x64 := by decide +kernel

/-- One head's attention block from the queries `q`, keys `k` and values `v` of the device: scaled queries, scores,
    row maximum, exponentials, row sums, weights, weighted values, with the kernel's casts. -/
def headBlk (q : FVec F S256x512 .f32) (k v : FVec F S256x512 .bf16) (x : Fin 2 × Fin 8) : FVec F S128x64 .bf16 :=
  let qh := extractStridedSlice S128x64 (headOff x) q (headOff_slices x)
  let kh := extractStridedSlice S128x64 (headOff x) k (headOff_slices x)
  let vh := extractStridedSlice S128x64 (headOff x) v (headOff_slices x)
  let qs : FVec F S128x64 .bf16 := truncf .bf16 (mulf qh (broadcast S128x64 (Scalar.ofBits .f32 0x3E000000#32))) bitsLt_bf16_f32
  let s : FVec F S128x128 .f32 := matmul dot_S128x64_S128x64_S128x128_1_1_0_0_n_n none qs kh (constant S128x128 .f32 0x00000000#32)
  let m : FVec F S128 .f32 := multiReduction .maximumf [1] S128 s 0xFF800000#32 reduces_S128x128_S128 (.inl rfl) rfl
  let p : FVec F S128x128 .f32 := exp (subf s (broadcastTo S128x128 (shapeCast S128x1 m shapeCasts_S128_S128x1) broadcasts_S128x1_S128x128))
  let l : FVec F S128 .f32 := multiReduction .add [1] S128 p 0x00000000#32 reduces_S128x128_S128 (.inl rfl) rfl
  let w : FVec F S128x128 .bf16 := truncf .bf16 (divf p (broadcastTo S128x128 (shapeCast S128x1 l shapeCasts_S128_S128x1) broadcasts_S128x1_S128x128)) bitsLt_bf16_f32
  let o : FVec F S128x64 .f32 := matmul dot_S128x128_S128x64_S128x64_1_0_0_1_n_n none w vh (constant S128x64 .f32 0x00000000#32)
  shapeCast S128x64 (truncf .bf16 o bitsLt_bf16_f32) shapeCasts_S128x64_S128x64

/-- A tile of an accumulator slot added to the running sum. -/
def addTile (a : FVec F S16x256 .f32) (t : Vec F S1x16x256 .bf16) : FVec F S16x256 .f32 :=
  addf a (extf .f32 (shapeCast S16x256 t shapeCasts_S1x16x256_S16x256) bitsLt_bf16_f32)

/-- The first tile, widened. -/
def firstTile (t : Vec F S1x16x256 .bf16) : FVec F S16x256 .f32 :=
  extf .f32 (shapeCast S16x256 t shapeCasts_S1x16x256_S16x256) bitsLt_bf16_f32

/-- The running sum, rounded for the reduced tile. -/
def redOf (a : FVec F S16x256 .f32) : FVec F S16x256 .bf16 :=
  shapeCast S16x256 (truncf .bf16 a bitsLt_bf16_f32) shapeCasts_S16x256_S16x256

/-! ## The loops -/

abbrev KProg (F : FTy → Type) [FloatOps F] : Type 1 := Prog (TpuEff nD τ sig (Elt F) Λ₀ .tc) PUnit

/-- A loop over peer steps whose every step continues into the rest. -/
def loop (step : Fin 31 → KProg F → KProg F) : List (Fin 31) → KProg F → KProg F
  | [], k => k
  | r :: l, k => step r (loop step l k)

section
variable (arg0 : Memref sig .tc .vmem S2x128x512 .bf16) (harg0 : arg0.IsWhole) (arg1 : Memref sig .tc .vmem S512x512 .bf16) (harg1 : arg1.IsWhole)
  (arg2 : Memref sig .tc .vmem S512x512 .bf16) (harg2 : arg2.IsWhole) (arg3 : Memref sig .tc .vmem S2x128x8x64 .bf16) (harg3 : arg3.IsWhole)
  (arg4 : Memref sig .tc .vmem S2x128x8x64 .bf16) (harg4 : arg4.IsWhole) (arg5 : Memref sig .tc .vmem S2x128x512 .bf16) (harg5 : arg5.IsWhole)
  (arg6 : Memref sig .tc .vmem S256x512 .bf16) (harg6 : arg6.IsWhole) (arg7 : Memref sig .tc .vmem S32x16x256 .bf16) (harg7 : arg7.IsWhole)
  (arg8 : Memref sig .tc .vmem S16x256 .bf16) (harg8 : arg8.IsWhole)
  (arg9 arg10 arg11 arg12 : DmaSems sig S32)

/-- Entry `r + 1` of a semaphore array. -/
abbrev semStep (a : DmaSems sig S32) (r : Fin 31) : DmaSem sig :=
  ((a.slice (Rect.unit (s := S32) ![1 + r.val] S1.size (inb_step r))).squeeze S_ squeezes_S1_S_).sem
/-- The entry of device `c` itself. -/
abbrev semOwn (a : DmaSems sig S32) (c : Dev nD) : DmaSem sig :=
  ((a.slice (Rect.unit (s := S32) (k0_off1 c) S1.size (k0_off1_inb c))).squeeze S_ squeezes_S1_S_).sem
/-- The entry of the device that is `r + 1` behind device `c`. -/
abbrev semSrc (a : DmaSems sig S32) (c : Dev nD) (r : Fin 31) : DmaSem sig :=
  ((a.slice (Rect.unit (s := S32) (k0_off6 c (peerW r)) S1.size (k0_off6_inb c r))).squeeze S_ squeezes_S1_S_).sem

/-- The barrier's signal to a peer. -/
def sigStep (c : Dev nD) (r : Fin 31) (k : KProg F) : KProg F :=
  .op (.semSignal ((⟨peerN c r, peerN_lt c r⟩ : Dev nD), .tc) (SemArray.scalar (sig.barrier 0 rfl) : Sems sig S_).sem (BitVec.toInt 1#32)) fun _ => k

/-- The tile of `part` for the peer at step `r`. -/
abbrev partTile (c : Dev nD) (r : Fin 31) : Memref sig .tc .vmem S16x256 .bf16 :=
  arg6.slice (Rect.unit (s := S256x512) (k0_off3 c (peerW r)) S16x256.size (k0_off3_inb c r)) (fun _ => rfl)
/-- The accumulator slot named by device `c`. -/
abbrev accOwn (c : Dev nD) : Memref sig .tc .vmem S16x256 .bf16 :=
  (arg7.slice (Rect.unit (s := S32x16x256) (k0_off2 c) S1x16x256.size (k0_off2_inb c)) (fun _ => rfl)).squeeze S16x256 squeezes_S1x16x256_S16x256
/-- The accumulator slot of the device `r + 1` behind. -/
abbrev accSrc (c : Dev nD) (r : Fin 31) : Memref sig .tc .vmem S16x256 .bf16 :=
  (arg7.slice (Rect.unit (s := S32x16x256) (k0_off7 c (peerW r)) S1x16x256.size (k0_off7_inb c r)) (fun _ => rfl)).squeeze S16x256 squeezes_S1x16x256_S16x256
/-- The output tile of device `c`. -/
abbrev outOwn (c : Dev nD) : Memref sig .tc .vmem S16x256 .bf16 :=
  (arg5.slice (Rect.unit (s := S2x128x512) (k0_off9 c) S1x16x256.size (k0_off9_inb c)) (fun _ => rfl)).squeeze S16x256 squeezes_S1x16x256_S16x256
/-- The output tile of the device `r + 1` behind. -/
abbrev outSrc (c : Dev nD) (r : Fin 31) : Memref sig .tc .vmem S16x256 .bf16 :=
  (arg5.slice (Rect.unit (s := S2x128x512) (k0_off11 c (peerW r)) S1x16x256.size (k0_off11_inb c r)) (fun _ => rfl)).squeeze S16x256 squeezes_S1x16x256_S16x256

/-- A head block stored to its place in `part` (the printed load of the place first: its value is not used). -/
def headStep (q : FVec F S256x512 .f32) (kk v : FVec F S256x512 .bf16) (x : Fin 2 × Fin 8) (k : KProg F) : KProg F :=
  .op (.load arg6 (Rect.unit (s := S256x512) (headOff x) S128x64.size (headOff_inb x)).toLoadRect (View.loadsAt_vmem h_S128x64)) fun _ =>
  .op (.store arg6 (Rect.unit (s := S256x512) (headOff x) S128x64.size (headOff_inb x)) (headBlk q kk v x) Finset.univ
    (View.stores_vmem h_S128x64 (harg6.storeExact_slice rfl _ (headOff_packed x)) (fun _ => rfl)) (.inl rfl)) fun _ => k

def headLoop (q : FVec F S256x512 .f32) (kk v : FVec F S256x512 .bf16) : List (Fin 2 × Fin 8) → KProg F → KProg F
  | [], k => k
  | x :: l, k => headStep arg6 harg6 q kk v x (headLoop q kk v l k)

/-- The first exchange: the copy of a tile of `part` to the peer it belongs to. -/
def send1Step (c : Dev nD) (r : Fin 31) (k : KProg F) : KProg F :=
  .op (.enqueueDma (partTile arg6 c r)
    (.remote (Dev.tc (⟨peerN c r, peerN_lt c r⟩ : Dev nD)) (accOwn arg7 c) (.dma (semStep arg9 r))) (.dma (semOwn arg10 c))
    (harg6.wordExact_slice rfl _ (k0_off3_wordsbf16 c r)) ((harg7.wordExact_slice rfl _ (k0_off2_wordsbf16 c)).reshape _ _) ⟨⟨rfl, Or.inl rfl⟩, trivial⟩) fun _ => k

/-- The wait for the tile of the device `r + 1` behind, its load, and the sum. -/
def recv1 (c : Dev nD) : List (Fin 31) → FVec F S16x256 .f32 → (FVec F S16x256 .f32 → KProg F) → KProg F
  | [], a, k => k a
  | r :: l, a, k =>
    .op (.waitDma2 (semSrc arg10 c r) (arg6.slice (Rect.unit (s := S256x512) ![0, 0] S16x256.size inb_S256x512_S16x256_0_0) (fun _ => rfl)) (accSrc arg7 c r)
      (harg6.wordExact_slice rfl _ wordsbf16_S256x512_S16x256_0_0) ((harg7.wordExact_slice rfl _ (k0_off7_wordsbf16 c r)).reshape _ _)) fun _ =>
    .op (.load arg7 (Rect.unit (s := S32x16x256) (k0_off8 c (peerW r)) S1x16x256.size (k0_off8_inb c r)).toLoadRect (View.loadsAt_vmem h_S1x16x256)) fun t =>
    recv1 c l (addTile a t) k

/-- The wait for one of its own copies of the first exchange. -/
def wait1Step (c : Dev nD) (r : Fin 31) (k : KProg F) : KProg F :=
  .op (.waitDma2 (semStep arg9 r) (accOwn arg7 c) (partTile arg6 c r)
    ((harg7.wordExact_slice rfl _ (k0_off2_wordsbf16 c)).reshape _ _) (harg6.wordExact_slice rfl _ (k0_off3_wordsbf16 c r))) fun _ => k

/-- The second exchange: the copy of the reduced tile to a peer. -/
def send2Step (c : Dev nD) (r : Fin 31) (k : KProg F) : KProg F :=
  .op (.enqueueDma arg8 (.remote (Dev.tc (⟨peerN c r, peerN_lt c r⟩ : Dev nD)) (outOwn arg5 c) (.dma (semStep arg11 r))) (.dma (semOwn arg12 c))
    harg8.wordExact ((harg5.wordExact_slice rfl _ (k0_off9_wordsbf16 c)).reshape _ _) ⟨⟨rfl, Or.inl rfl⟩, trivial⟩) fun _ => k

/-- The wait for the reduced tile of the device `r + 1` behind. -/
def recv2Step (c : Dev nD) (r : Fin 31) (k : KProg F) : KProg F :=
  .op (.waitDma2 (semSrc arg12 c r) arg8 (outSrc arg5 c r) harg8.wordExact ((harg5.wordExact_slice rfl _ (k0_off11_wordsbf16 c r)).reshape _ _)) fun _ => k

/-- The wait for one of its own copies of the second exchange. -/
def wait2Step (c : Dev nD) (r : Fin 31) (k : KProg F) : KProg F :=
  .op (.waitDma2 (semStep arg11 r) (outOwn arg5 c) arg8 ((harg5.wordExact_slice rfl _ (k0_off9_wordsbf16 c)).reshape _ _) harg8.wordExact) fun _ => k

/-- Everything after the first exchange's sums. -/
def tailProg (c : Dev nD) (a : FVec F S16x256 .f32) : KProg F :=
  .op (.load arg8 (Rect.unit (s := S16x256) ![0, 0] S16x256.size inb_S16x256_S16x256_0_0).toLoadRect (View.loadsAt_vmem h_S16x256)) fun _ =>
  .op (.store arg8 (Rect.unit (s := S16x256) ![0, 0] S16x256.size inb_S16x256_S16x256_0_0) (redOf a) Finset.univ
    (View.stores_vmem h_S16x256 (harg8.storeExact_slice rfl _ packedbf16_S16x256_S16x256_0_0) (fun _ => rfl)) (.inl rfl)) fun _ =>
  loop (wait1Step arg6 harg6 arg7 harg7 arg9 c) steps <|
  loop (send2Step arg5 harg5 arg8 harg8 arg11 arg12 c) steps <|
  .op (.load arg8 (Rect.unit (s := S16x256) ![0, 0] S16x256.size inb_S16x256_S16x256_0_0).toLoadRect (View.loadsAt_vmem h_S16x256)) fun t =>
  .op (.load arg5 (Rect.unit (s := S2x128x512) (k0_off10 c) S1x16x256.size (k0_off10_inb c)).toLoadRect (View.loadsAt_vmem h_S1x16x256)) fun _ =>
  .op (.store arg5 (Rect.unit (s := S2x128x512) (k0_off10 c) S1x16x256.size (k0_off10_inb c)) (k0_pay54 t) Finset.univ
    (View.stores_vmem h_S1x16x256 (harg5.storeExact_slice rfl _ (k0_off10_packedbf16 c)) (fun _ => rfl)) (.inl rfl)) fun _ =>
  loop (recv2Step arg5 harg5 arg8 harg8 arg12 c) steps <|
  loop (wait2Step arg5 harg5 arg8 harg8 arg11 c) steps <|
  .ret ⟨⟩

/-- From the first exchange on. -/
def exchProg (c : Dev nD) : KProg F :=
  loop (send1Step arg6 harg6 arg7 harg7 arg9 arg10 c) steps <|
  .op (.load arg6 (Rect.unit (s := S256x512) (k0_off4 c) S16x256.size (k0_off4_inb c)).toLoadRect (View.loadsAt_vmem h_S16x256)) fun t =>
  .op (.load arg7 (Rect.unit (s := S32x16x256) (k0_off5 c) S1x16x256.size (k0_off5_inb c)).toLoadRect (View.loadsAt_vmem h_S1x16x256)) fun _ =>
  .op (.store arg7 (Rect.unit (s := S32x16x256) (k0_off5 c) S1x16x256.size (k0_off5_inb c)) (k0_pay38 t) Finset.univ
    (View.stores_vmem h_S1x16x256 (harg7.storeExact_slice rfl _ (k0_off5_packedbf16 c)) (fun _ => rfl)) (.inl rfl)) fun _ =>
  .op (.load arg7 (Rect.unit (s := S32x16x256) (k0_off5 c) S1x16x256.size (k0_off5_inb c)).toLoadRect (View.loadsAt_vmem h_S1x16x256)) fun u =>
  recv1 arg6 harg6 arg7 harg7 arg10 c steps (firstTile u) fun a =>
  tailProg arg5 harg5 arg6 harg6 arg7 harg7 arg8 harg8 arg9 arg11 arg12 c a

/-- From the attention on. -/
def workProg (c : Dev nD) : KProg F :=
  .op (.load arg0 (Rect.unit (s := S2x128x512) ![0, 0, 0] S2x128x512.size inb_S2x128x512_S2x128x512_0_0_0).toLoadRect (View.loadsAt_vmem h_S2x128x512)) fun x =>
  .op (.load arg1 (Rect.unit (s := S512x512) ![0, 0] S512x512.size inb_S512x512_S512x512_0_0).toLoadRect (View.loadsAt_vmem h_S512x512)) fun wq =>
  .op (.load arg3 (Rect.unit (s := S2x128x8x64) ![0, 0, 0, 0] S2x128x8x64.size inb_S2x128x8x64_S2x128x8x64_0_0_0_0).toLoadRect (View.loadsAt_vmem h_S2x128x8x64)) fun kk =>
  .op (.load arg4 (Rect.unit (s := S2x128x8x64) ![0, 0, 0, 0] S2x128x8x64.size inb_S2x128x8x64_S2x128x8x64_0_0_0_0).toLoadRect (View.loadsAt_vmem h_S2x128x8x64)) fun v =>
  headLoop arg6 harg6 (k0_pay1 x wq) (k0_pay2 kk) (k0_pay3 v) heads <|
  .op (.load arg2 (Rect.unit (s := S512x512) ![0, 0] S512x512.size inb_S512x512_S512x512_0_0).toLoadRect (View.loadsAt_vmem h_S512x512)) fun wo =>
  .op (.load arg6 (Rect.unit (s := S256x512) ![0, 0] S256x512.size inb_S256x512_S256x512_0_0).toLoadRect (View.loadsAt_vmem h_S256x512)) fun o =>
  .op (.load arg6 (Rect.unit (s := S256x512) ![0, 0] S256x512.size inb_S256x512_S256x512_0_0).toLoadRect (View.loadsAt_vmem h_S256x512)) fun _ =>
  .op (.store arg6 (Rect.unit (s := S256x512) ![0, 0] S256x512.size inb_S256x512_S256x512_0_0) (k0_pay37 (k0_pay36 wo o)) Finset.univ
    (View.stores_vmem h_S256x512 (harg6.storeExact_slice rfl _ packedbf16_S256x512_S256x512_0_0) (fun _ => rfl)) (.inl rfl)) fun _ =>
  exchProg arg5 harg5 arg6 harg6 arg7 harg7 arg8 harg8 arg9 arg10 arg11 arg12 c

/-- The body. -/
def bodyProg : KProg F :=
  .op .deviceId fun c : Dev nD =>
  loop (sigStep c) steps <|
  .op (.semWait (SemArray.scalar (sig.barrier 0 rfl) : Sems sig S_).sem (BitVec.toInt 31#32)) fun _ =>
  workProg arg0 arg1 arg2 arg3 arg4 arg5 harg5 arg6 harg6 arg7 harg7 arg8 harg8 arg9 arg10 arg11 arg12 c

set_option maxRecDepth 100000 in
/-- The printed body is the loop form. -/
theorem body_eq_loops :
    cc0_body (F := F) arg0 harg0 arg1 harg1 arg2 harg2 arg3 harg3 arg4 harg4 arg5 harg5 arg6 harg6 arg7 harg7 arg8 harg8 arg9 arg10 arg11 arg12
      = bodyProg arg0 arg1 arg2 arg3 arg4 arg5 harg5 arg6 harg6 arg7 harg7 arg8 harg8 arg9 arg10 arg11 arg12 := by
  chain_rfl

end

end Cert.KProof

end
-- ==== Proof.Tiles.lean ====
/-
Peers, semaphores and tiles of the two exchanges in closed form.

At peer step `r` a device `c` addresses the device `c + r + 1` (mod 32), `peer c r`, and receives from the device
`r + 1` behind it, `src c r`. The four semaphore arrays have 32 entries each. The 256 × 512 partial result is cut in 32
tiles of 16 × 256, tile `j` at row `16 (j / 2)`, column `256 (j mod 2)`; the accumulator has a slot of 16 × 256 for
each device; the result, 2 × 128 × 512, has a tile for each device as the partial result has.
-/
module

public import proofs.«01_k».proof.Proof.Loops
public import Idealize.ShloMosaic.Lib.ValueLayout

@[expose] public section

noncomputable section

namespace Cert.KProof

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Peers -/

/-- The device addressed at peer step `r`. -/
abbrev peer (c : Dev nD) (r : Fin 31) : Dev nD := ⟨peerN c r, peerN_lt c r⟩

/-- The device `r + 1` behind, by its position. -/
def srcN (c : Dev nD) (r : Fin 31) : ℕ := ((c.val + 31) - r.val) % 32
theorem srcN_lt (c : Dev nD) (r : Fin 31) : srcN c r < nD := Nat.mod_lt _ (by decide)
/-- The device that addresses `c` at peer step `r`. -/
def src (c : Dev nD) (r : Fin 31) : Dev nD := ⟨srcN c r, srcN_lt c r⟩

theorem peer_val (c : Dev nD) (r : Fin 31) : (peer c r).val = (c.val + r.val + 1) % 32 := peerN_eq c r
theorem src_val (c : Dev nD) (r : Fin 31) : (src c r).val = ((c.val + 31) - r.val) % 32 := rfl

theorem peer_src (c : Dev nD) (r : Fin 31) : peer (src c r) r = c :=
  Fin.ext (by rw [peer_val, src_val]; have := c.isLt; have := r.isLt; simp only [show nD = 32 from rfl] at *; omega)
theorem src_peer (c : Dev nD) (r : Fin 31) : src (peer c r) r = c :=
  Fin.ext (by rw [src_val, peer_val]; have := c.isLt; have := r.isLt; simp only [show nD = 32 from rfl] at *; omega)
theorem peer_ne (c : Dev nD) (r : Fin 31) : peer c r ≠ c := fun h => by
  have h := congrArg Fin.val h
  rw [peer_val] at h; have := c.isLt; have := r.isLt; simp only [show nD = 32 from rfl] at *; omega
theorem src_ne (c : Dev nD) (r : Fin 31) : src c r ≠ c := fun h => by
  have h := congrArg Fin.val h
  rw [src_val] at h; have := c.isLt; have := r.isLt; simp only [show nD = 32 from rfl] at *; omega
theorem peer_injective (c : Dev nD) : Function.Injective (peer c) := fun r r' h => Fin.ext (by
  have h := congrArg Fin.val h
  rw [peer_val, peer_val] at h; have := c.isLt; have := r.isLt; have := r'.isLt; simp only [show nD = 32 from rfl] at *; omega)
theorem src_injective (c : Dev nD) : Function.Injective (src c) := fun r r' h => Fin.ext (by
  have h := congrArg Fin.val h
  rw [src_val, src_val] at h; have := c.isLt; have := r.isLt; have := r'.isLt; simp only [show nD = 32 from rfl] at *; omega)

/-- Entry `r + 1` of an array of 32. -/
def stepIx (r : Fin 31) : Fin 32 := ⟨1 + r.val, by have := r.isLt; omega⟩
theorem stepIx_injective : Function.Injective stepIx := fun r r' h => Fin.ext (by
  have h := congrArg Fin.val h; simp only [stepIx] at h; omega)
theorem stepIx_ne (r : Fin 31) : stepIx r ≠ 0 := fun h => by
  have h := congrArg Fin.val h; simp only [stepIx, Fin.val_zero] at h; omega

/-- An injective family of 31 of 32 indices, missing `x`, is all of them but `x`. -/
theorem erase_eq_map {f : Fin 31 → Fin 32} (hf : Function.Injective f) {x : Fin 32} (hx : ∀ r, f r ≠ x) :
    (Finset.univ.erase x : Finset (Fin 32)) = Finset.univ.map ⟨f, hf⟩ := by
  symm
  refine Finset.eq_of_subset_of_card_le (fun y hy => ?_) ?_
  · obtain ⟨r, -, rfl⟩ := Finset.mem_map.mp hy
    exact Finset.mem_erase.mpr ⟨hx r, Finset.mem_univ _⟩
  · rw [Finset.card_map, Finset.card_erase_of_mem (Finset.mem_univ _), Finset.card_univ, Finset.card_univ, Fintype.card_fin, Fintype.card_fin]

/-! ## Semaphores -/

/-- The barrier semaphore. -/
abbrev barS : Sem sig := (SemArray.scalar (sig.barrier 0 rfl) : Sems sig S_).sem

theorem dsemN_lt (a : Fin 4) (s : Fin 32) : 6 + 32 * a.val + s.val < 134 := by have := a.isLt; have := s.isLt; omega
/-- Entry `s` of semaphore array `a`: 0 and 1 the first exchange's sends and receives, 2 and 3 the second's. -/
def dsem (a : Fin 4) (s : Fin 32) : DmaSem sig := ⟨6 + 32 * a.val + s.val, dsemN_lt a s⟩

theorem dsem_injective {a a' : Fin 4} {s s' : Fin 32} (h : dsem a s = dsem a' s') : a = a' ∧ s = s' := by
  have h := congrArg Fin.val h
  simp only [dsem] at h
  have := a.isLt; have := a'.isLt; have := s.isLt; have := s'.isLt
  exact ⟨Fin.ext (by omega), Fin.ext (by omega)⟩

theorem semStep_3 : ∀ r, semStep cc0_scratch3 r = dsem 0 (stepIx r) := by decide +kernel
theorem semStep_5 : ∀ r, semStep cc0_scratch5 r = dsem 2 (stepIx r) := by decide +kernel
theorem semOwn_4 : ∀ c, semOwn cc0_scratch4 c = dsem 1 c := by decide +kernel
theorem semOwn_6 : ∀ c, semOwn cc0_scratch6 c = dsem 3 c := by decide +kernel
theorem semSrc_4 : ∀ c r, semSrc cc0_scratch4 c r = dsem 1 (src c r) := by decide +kernel
theorem semSrc_6 : ∀ c r, semSrc cc0_scratch6 c r = dsem 3 (src c r) := by decide +kernel

/-! ## Buffers -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x8x64 .bf16 := Memref.whole cc0_stg3_0
abbrev vM : Memref sig .tc .vmem S2x128x8x64 .bf16 := Memref.whole cc0_stg4_0
abbrev outM : Memref sig .tc .vmem S2x128x512 .bf16 := Memref.whole cc0_stg5_0
abbrev partM : Memref sig .tc .vmem S256x512 .bf16 := Memref.whole cc0_scratch0
abbrev accM : Memref sig .tc .vmem S32x16x256 .bf16 := Memref.whole cc0_scratch1
abbrev redM : Memref sig .tc .vmem S16x256 .bf16 := Memref.whole cc0_scratch2

/-! ## Tiles -/

/-- Where tile `j` of the partial result starts. -/
abbrev partOff (j : Dev nD) : Fin 2 → ℕ := ![16 * (j.val / 2), 256 * (j.val % 2)]
theorem partOff_inb : ∀ (j : Dev nD) (a : Fin 2), partOff j a + S16x256.size a ≤ S256x512.size a := by decide +kernel
abbrev partRect (j : Dev nD) : Rect S256x512 := Rect.unit (s := S256x512) (partOff j) S16x256.size (partOff_inb j)

/-- Where slot `j` of the accumulator starts. -/
abbrev accOff (j : Dev nD) : Fin 3 → ℕ := ![j.val, 0, 0]
theorem accOff_inb : ∀ (j : Dev nD) (a : Fin 3), accOff j a + S1x16x256.size a ≤ S32x16x256.size a := by decide +kernel
abbrev accRect (j : Dev nD) : Rect S32x16x256 := Rect.unit (s := S32x16x256) (accOff j) S1x16x256.size (accOff_inb j)

/-- Where tile `j` of the result starts. -/
abbrev outOff (j : Dev nD) : Fin 3 → ℕ := ![(16 * (j.val / 2)) / 128, (16 * (j.val / 2)) % 128, 256 * (j.val % 2)]
theorem outOff_inb : ∀ (j : Dev nD) (a : Fin 3), outOff j a + S1x16x256.size a ≤ S2x128x512.size a := by decide +kernel
abbrev outRect (j : Dev nD) : Rect S2x128x512 := Rect.unit (s := S2x128x512) (outOff j) S1x16x256.size (outOff_inb j)

theorem off3_eq (c : Dev nD) (r : Fin 31) : k0_off3 c (peerW r) = partOff (peer c r) := by
  have h : peerN c r = (c.val + r.val + 1) % 32 := peerN_eq c r
  exact (k0_off3_eq c r).trans (by rw [← h])
theorem off7_eq (c : Dev nD) (r : Fin 31) : k0_off7 c (peerW r) = accOff (src c r) := k0_off7_eq c r
theorem off8_eq (c : Dev nD) (r : Fin 31) : k0_off8 c (peerW r) = accOff (src c r) := k0_off8_eq c r
theorem off11_eq (c : Dev nD) (r : Fin 31) : k0_off11 c (peerW r) = outOff (src c r) := k0_off11_eq c r

/-- A unit rectangle at equal offsets is the same. -/
theorem unit_congr {s : Shape} {o o' sz : Fin s.rank → ℕ} (h : o = o') (p : ∀ a, o a + sz a ≤ s.size a) (p' : ∀ a, o' a + sz a ≤ s.size a) :
    Rect.unit (s := s) o sz p = Rect.unit o' sz p' := by subst h; rfl

theorem part_slice_congr {o o' : Fin S256x512.rank → ℕ} (h : o = o') (p : ∀ a, o a + S16x256.size a ≤ S256x512.size a) (p' : ∀ a, o' a + S16x256.size a ≤ S256x512.size a) :
    partM.slice (Rect.unit (s := S256x512) o S16x256.size p) (fun _ => rfl) =
      partM.slice (Rect.unit (s := S256x512) o' S16x256.size p') (fun _ => rfl) := by subst h; rfl
theorem acc_slice_congr {o o' : Fin S32x16x256.rank → ℕ} (h : o = o') (p : ∀ a, o a + S1x16x256.size a ≤ S32x16x256.size a) (p' : ∀ a, o' a + S1x16x256.size a ≤ S32x16x256.size a) :
    (accM.slice (Rect.unit (s := S32x16x256) o S1x16x256.size p) (fun _ => rfl)).squeeze S16x256 squeezes_S1x16x256_S16x256 =
      (accM.slice (Rect.unit (s := S32x16x256) o' S1x16x256.size p') (fun _ => rfl)).squeeze S16x256 squeezes_S1x16x256_S16x256 := by subst h; rfl
theorem out_slice_congr {o o' : Fin S2x128x512.rank → ℕ} (h : o = o') (p : ∀ a, o a + S1x16x256.size a ≤ S2x128x512.size a) (p' : ∀ a, o' a + S1x16x256.size a ≤ S2x128x512.size a) :
    (outM.slice (Rect.unit (s := S2x128x512) o S1x16x256.size p) (fun _ => rfl)).squeeze S16x256 squeezes_S1x16x256_S16x256 =
      (outM.slice (Rect.unit (s := S2x128x512) o' S1x16x256.size p') (fun _ => rfl)).squeeze S16x256 squeezes_S1x16x256_S16x256 := by subst h; rfl
theorem partTile_eq (c : Dev nD) (r : Fin 31) :
    partTile partM c r = partM.slice (partRect (peer c r)) (fun _ => rfl) :=
  part_slice_congr (off3_eq c r) _ _
theorem accOwn_eq (c : Dev nD) : accOwn accM c = (accM.slice (accRect c) (fun _ => rfl)).squeeze S16x256 squeezes_S1x16x256_S16x256 :=
  acc_slice_congr (k0_off2_eq c) _ _
theorem accSrc_eq (c : Dev nD) (r : Fin 31) : accSrc accM c r = (accM.slice (accRect (src c r)) (fun _ => rfl)).squeeze S16x256 squeezes_S1x16x256_S16x256 :=
  acc_slice_congr (off7_eq c r) _ _
theorem outOwn_eq (c : Dev nD) : outOwn outM c = (outM.slice (outRect c) (fun _ => rfl)).squeeze S16x256 squeezes_S1x16x256_S16x256 :=
  out_slice_congr (k0_off9_eq c) _ _
theorem outSrc_eq (c : Dev nD) (r : Fin 31) : outSrc outM c r = (outM.slice (outRect (src c r)) (fun _ => rfl)).squeeze S16x256 squeezes_S1x16x256_S16x256 :=
  out_slice_congr (off11_eq c r) _ _

/-! ### The tiles partition their buffers -/

theorem partRect_disjoint (j j' : Dev nD) (h : j ≠ j') : Disjoint (partRect j).set (partRect j').set := by
  rw [Finset.disjoint_left]
  intro i hi hi'
  rw [Rect.mem_set_unit] at hi hi'
  have a0 := hi 0; have a1 := hi 1; have b0 := hi' 0; have b1 := hi' 1
  simp [S16x256] at a0 a1 b0 b1
  exact h (Fin.ext (by omega))
theorem partRect_cover : (Finset.univ.biUnion fun j : Dev nD => (partRect j).set) = Finset.univ := by
  refine Finset.eq_univ_of_forall fun i => ?_
  have h0 : (i 0).val < 256 := (i 0).isLt
  have h1 : (i 1).val < 512 := (i 1).isLt
  refine Finset.mem_biUnion.mpr ⟨⟨2 * ((i 0).val / 16) + (i 1).val / 256, by show _ < 32; omega⟩, Finset.mem_univ _, ?_⟩
  rw [Rect.mem_set_unit]
  intro a
  match a with
  | ⟨0, _⟩ => simp [S16x256]; omega
  | ⟨1, _⟩ => simp [S16x256]; omega

theorem accRect_disjoint (j j' : Dev nD) (h : j ≠ j') : Disjoint (accRect j).set (accRect j').set := by
  rw [Finset.disjoint_left]
  intro i hi hi'
  rw [Rect.mem_set_unit] at hi hi'
  have a0 := hi 0; have b0 := hi' 0
  simp [S1x16x256] at a0 b0
  exact h (Fin.ext (by omega))
theorem accRect_cover : (Finset.univ.biUnion fun j : Dev nD => (accRect j).set) = Finset.univ := by
  refine Finset.eq_univ_of_forall fun i => ?_
  have h0 : (i 0).val < 32 := (i 0).isLt
  have h1 : (i 1).val < 16 := (i 1).isLt
  have h2 : (i 2).val < 256 := (i 2).isLt
  refine Finset.mem_biUnion.mpr ⟨⟨(i 0).val, h0⟩, Finset.mem_univ _, ?_⟩
  rw [Rect.mem_set_unit]
  intro a
  match a with
  | ⟨0, _⟩ => simp [S1x16x256]
  | ⟨1, _⟩ => simp [S1x16x256]; omega
  | ⟨2, _⟩ => simp [S1x16x256]; omega

theorem outRect_disjoint (j j' : Dev nD) (h : j ≠ j') : Disjoint (outRect j).set (outRect j').set := by
  rw [Finset.disjoint_left]
  intro i hi hi'
  rw [Rect.mem_set_unit] at hi hi'
  have a0 := hi 0; have a1 := hi 1; have a2 := hi 2; have b0 := hi' 0; have b1 := hi' 1; have b2 := hi' 2
  simp [S1x16x256] at a0 a1 a2 b0 b1 b2
  exact h (Fin.ext (by omega))
theorem outRect_cover : (Finset.univ.biUnion fun j : Dev nD => (outRect j).set) = Finset.univ := by
  refine Finset.eq_univ_of_forall fun i => ?_
  have h0 : (i 0).val < 2 := (i 0).isLt
  have h1 : (i 1).val < 128 := (i 1).isLt
  have h2 : (i 2).val < 512 := (i 2).isLt
  refine Finset.mem_biUnion.mpr ⟨⟨16 * (i 0).val + 2 * ((i 1).val / 16) + (i 2).val / 256, by show _ < 32; omega⟩, Finset.mem_univ _, ?_⟩
  rw [Rect.mem_set_unit]
  intro a
  match a with
  | ⟨0, _⟩ => simp [S1x16x256]; omega
  | ⟨1, _⟩ => simp [S1x16x256]; omega
  | ⟨2, _⟩ => simp [S1x16x256]; omega

/-! ### Contents -/

/-- Tile `j` of a partial result. -/
def tileOf (P : Vec F S256x512 .bf16) (j : Dev nD) : Vec F S16x256 .bf16 := fun i => P ((partRect j).emb i)

/-- The accumulator filled on device `d`, slot by slot with its tile of each device's partial result. -/
def accOf (P : Dev nD → Vec F S256x512 .bf16) (d : Dev nD) : Vec F S32x16x256 .bf16 := fun i =>
  tileOf (P ⟨(i 0).val, (i 0).isLt⟩) d (ix2 ⟨(i 1).val, (i 1).isLt⟩ ⟨(i 2).val, (i 2).isLt⟩)

/-- The result's tile an index lies in. -/
def ownerOf (i : S2x128x512.Idx) : Dev nD :=
  ⟨16 * (i 0).val + 2 * ((i 1).val / 16) + (i 2).val / 256, by
    have h0 : (i 0).val < 2 := (i 0).isLt
    have h1 : (i 1).val < 128 := (i 1).isLt
    have h2 : (i 2).val < 512 := (i 2).isLt
    show _ < 32; omega⟩
/-- The result filled with the devices' reduced tiles. -/
def outOf (Rd : Dev nD → Vec F S16x256 .bf16) : Vec F S2x128x512 .bf16 := fun i =>
  Rd (ownerOf i) (ix2 ⟨(i 1).val % 16, Nat.mod_lt _ (by decide)⟩ ⟨(i 2).val % 256, Nat.mod_lt _ (by decide)⟩)

theorem accRect_emb (j : Dev nD) (x : Fin 16) (y : Fin 256) :
    (accRect j).emb (ix3 (⟨0, Nat.one_pos⟩ : Fin 1) x y) = (ix3 (⟨j.val, j.isLt⟩ : Fin 32) x y : S32x16x256.Idx) := by
  funext a
  match a with
  | ⟨0, _⟩ => exact Fin.ext (show j.val + 1 * 0 = j.val by omega)
  | ⟨1, _⟩ => exact Fin.ext (show 0 + 1 * x.val = x.val by omega)
  | ⟨2, _⟩ => exact Fin.ext (show 0 + 1 * y.val = y.val by omega)

theorem outOf_emb (Rd : Dev nD → Vec F S16x256 .bf16) (j : Dev nD) (x : Fin 16) (y : Fin 256) :
    outOf Rd ((outRect j).emb (ix3 (⟨0, Nat.one_pos⟩ : Fin 1) x y)) = Rd j (ix2 x y) := by
  unfold outOf
  have e0 : ((outRect j).emb (ix3 (⟨0, Nat.one_pos⟩ : Fin 1) x y) 0).val = (16 * (j.val / 2)) / 128 := show (16 * (j.val / 2)) / 128 + 1 * 0 = _ by omega
  have e1 : ((outRect j).emb (ix3 (⟨0, Nat.one_pos⟩ : Fin 1) x y) 1).val = (16 * (j.val / 2)) % 128 + x.val := show (16 * (j.val / 2)) % 128 + 1 * x.val = _ by omega
  have e2 : ((outRect j).emb (ix3 (⟨0, Nat.one_pos⟩ : Fin 1) x y) 2).val = 256 * (j.val % 2) + y.val := show 256 * (j.val % 2) + 1 * y.val = _ by omega
  have hx := x.isLt; have hy := y.isLt
  have hj : j.val < 32 := j.isLt
  have ho : ownerOf ((outRect j).emb (ix3 (⟨0, Nat.one_pos⟩ : Fin 1) x y)) = j := Fin.ext (by
    show 16 * ((outRect j).emb (ix3 (⟨0, Nat.one_pos⟩ : Fin 1) x y) 0).val + 2 * (((outRect j).emb (ix3 (⟨0, Nat.one_pos⟩ : Fin 1) x y) 1).val / 16)
      + ((outRect j).emb (ix3 (⟨0, Nat.one_pos⟩ : Fin 1) x y) 2).val / 256 = j.val
    rw [e0, e1, e2]; omega)
  rw [ho]
  congr 1
  funext a
  match a with
  | ⟨0, _⟩ => exact Fin.ext (show ((outRect j).emb (ix3 (⟨0, Nat.one_pos⟩ : Fin 1) x y) 1).val % 16 = x.val by rw [e1]; omega)
  | ⟨1, _⟩ => exact Fin.ext (show ((outRect j).emb (ix3 (⟨0, Nat.one_pos⟩ : Fin 1) x y) 2).val % 256 = y.val by rw [e2]; omega)

end Cert.KProof

end
-- ==== Proof.Proto.lean ====
/-
The protocol of the two exchanges.

Each device has a barrier semaphore and four arrays of 32 transfer semaphores. Semaphore by semaphore:

* barrier of `d`: every other device `d'` signals one unit, and hands over, for device `d` to write, the slot `d` of the
  accumulator of `d'` and the tile `d` of the result of `d'`; device `d` waits for all 31 units.
* first exchange, receive entry `s` of `d`: the copy of device `s` into slot `s` of the accumulator of `d` credits it; it
  hands over that slot, holding tile `d` of the partial result of `s`.
* first exchange, send entry `s` of `d`: the copy of `d` to the device `s` ahead credits it; it hands back the tile of the
  partial result the copy read.
* second exchange, receive entry `s` of `d`: the copy of device `s` into tile `s` of the result of `d`; it hands over that
  tile, holding the reduced tile of `s`.
* second exchange, send entry `s` of `d`: it hands back the share of the reduced tile the copy read.

Each semaphore is used for one round. Levels: barrier 1, receives of the first exchange 2, of the second 3, sends 0;
a device waits on its barrier owing only receives, on receives of the first exchange owing receives of the second, and
on those owing nothing.
-/
module

public import proofs.«01_k».proof.Proof.Tiles
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F]

/-! ## Resources: the pipeline's and the exchanges' (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev dCell (c : Dev nD) (a : Fin 4) (s : Fin 32) : GSem nD τ sig := ((c : Thread nD τ), .dma (dsem a s))

/-- The exchanges' transfer semaphores on a device, -/
abbrev osem : Fin 4 × Fin 32 → SemLoc sig := fun k => .dma (dsem k.1 k.2)
/-- and its barrier with them. -/
abbrev csem : Option (Fin 4 × Fin 32) → SemLoc sig := fun | none => .reg barS | some k => osem k
abbrev kcell (ck : Dev nD × Option (Fin 4 × Fin 32)) : GSem nD τ sig := ((ck.1 : Thread nD τ), csem ck.2)

/-- The array a transfer semaphore is of, and its entry there. -/
def arrOf (q : DmaSem sig) : ℕ := (q.val - 6) / 32
def entOf (q : DmaSem sig) : Fin 32 := ⟨(q.val - 6) % 32, Nat.mod_lt _ (by decide)⟩

theorem arrOf_dsem (a : Fin 4) (s : Fin 32) : arrOf (dsem a s) = a.val := by
  simp only [arrOf, dsem]; have := s.isLt; omega
theorem entOf_dsem (a : Fin 4) (s : Fin 32) : entOf (dsem a s) = s :=
  Fin.ext (by simp only [entOf, dsem]; have := s.isLt; omega)

/-- What a tile's copy credits. -/
abbrev N : ℕ := (accOwn accM (0 : Dev nD)).view.dmaCredit
theorem N_pos : 0 < N := View.dmaCredit_pos _ (by decide)
theorem credit_acc (c : Dev nD) (r : Fin 31) : (accSrc accM c r).view.dmaCredit = N := rfl
theorem credit_accOwn (c : Dev nD) : (accOwn accM c).view.dmaCredit = N := rfl
theorem credit_part (c : Dev nD) (r : Fin 31) : (partTile partM c r).view.dmaCredit = N := rfl
theorem credit_outOwn (c : Dev nD) : (outOwn outM c).view.dmaCredit = N := rfl
theorem credit_outSrc (c : Dev nD) (r : Fin 31) : (outSrc outM c r).view.dmaCredit = N := rfl
theorem credit_red : (redM : Memref sig .tc .vmem S16x256 .bf16).view.dmaCredit = N := rfl

/-! ## Tiles held -/

/-- Tile `j` of the partial result of device `c`, holding what `P` has there. -/
def partPts (c j : Dev nD) (f : Vec F S256x512 .bf16) : sProp 𝕄 :=
  ((c : Thread nD τ).loc cc0_scratch0) ↦[(partRect j).set]{fullShare} f
/-- Slot `j` of the accumulator of device `c`. -/
def accPts (c j : Dev nD) (f : Vec F S32x16x256 .bf16) : sProp 𝕄 :=
  ((c : Thread nD τ).loc cc0_scratch1) ↦[(accRect j).set]{fullShare} f
/-- Tile `j` of the result of device `c`. -/
def outPts (c j : Dev nD) (f : Vec F S2x128x512 .bf16) : sProp 𝕄 :=
  ((c : Thread nD τ).loc cc0_stg5_0) ↦[(outRect j).set]{fullShare} f
/-- A share of the reduced tile of device `c`. -/
def redPts (c : Dev nD) (q : PosShare TreeShare) (f : Vec F S16x256 .bf16) : sProp 𝕄 :=
  ((c : Thread nD τ).loc cc0_scratch2) ↦{q} f

omit [FloatOps F] in
instance partPts_storable (c j : Dev nD) (f) : BI.Storable (upEmb : UEmb _ 𝕄) (partPts (F := F) c j f) := by unfold partPts; infer_instance
omit [FloatOps F] in
instance accPts_storable (c j : Dev nD) (f) : BI.Storable (upEmb : UEmb _ 𝕄) (accPts (F := F) c j f) := by unfold accPts; infer_instance
omit [FloatOps F] in
instance outPts_storable (c j : Dev nD) (f) : BI.Storable (upEmb : UEmb _ 𝕄) (outPts (F := F) c j f) := by unfold outPts; infer_instance
omit [FloatOps F] in
instance redPts_storable (c : Dev nD) (q) (f) : BI.Storable (upEmb : UEmb _ 𝕄) (redPts (F := F) c q f) := by unfold redPts; infer_instance

/-! ## The schedule -/

/-- The devices' partial results and reduced tiles. -/
structure Data (F : FTy → Type) where
  part : Dev nD → Vec F S256x512 .bf16
  red : Dev nD → Vec F S16x256 .bf16

variable (X : Data F)

/-- Whether entry `s` of array `a` (0 and 2 sends, by peer step; 1 and 3 receives, by device) is used on device `c`. -/
def Used (c : Dev nD) (a : ℕ) (s : Fin 32) : Prop := if a % 2 = 0 then s ≠ 0 else s ≠ c
instance (c : Dev nD) (a : ℕ) (s : Fin 32) : Decidable (Used c a s) := by unfold Used; infer_instance

/-- What a device that signals the barrier of `d` hands over. -/
def barPay (d d' : Dev nD) : sProp 𝕄 := iprop((∃ f, accPts (F := F) d' d f) ∗ ∃ f, outPts (F := F) d' d f)

/-- What a transfer semaphore hands over. -/
def dmaPay (c : Dev nD) (a : ℕ) (s : Fin 32) : sProp 𝕄 :=
  if a = 0 then partPts c ⟨(c.val + s.val) % 32, Nat.mod_lt _ (by decide)⟩ (X.part c)
  else if a = 1 then accPts c s (accOf X.part c)
  else if a = 2 then redPts c (shareTokN fullShare (s.val - 1)) (X.red c)
  else outPts c s (outOf X.red)

/-- One round, round 0: a barrier's duties are named by the 31 other devices, one unit each; a used transfer semaphore
    has one duty, a tile's credit. -/
def sched : Rounds.Schedule (GSem nD τ sig) (Dev nD) 𝕄 where
  duties g r := if r = 0 ∧ g.1.2 = .tc then
      (match g.2 with
        | .reg _ => Finset.univ.erase g.1.1
        | .dma q => if Used g.1.1 (arrOf q) (entOf q) then {0} else ∅)
    else ∅
  unitless _ := False
  amount g _ _ := match g.2 with | .reg _ => 1 | .dma _ => N
  payload g _ d := match g.2 with
    | .reg _ => barPay g.1.1 d
    | .dma q => dmaPay X g.1.1 (arrOf q) (entOf q)
  amount_pos g _ _ _ := by
    rcases g with ⟨t, q | q⟩
    · exact Nat.one_pos
    · exact N_pos

omit [FloatOps F] in
instance sched_payload_storable (g : GSem nD τ sig) (r : ℕ) (d : Dev nD) : BI.Storable (upEmb : UEmb _ 𝕄) ((sched X).payload g r d) := by
  rcases g with ⟨t, q | q⟩
  · show BI.Storable upEmb (barPay t.1 d); unfold barPay; infer_instance
  · show BI.Storable upEmb (dmaPay X t.1 (arrOf q) (entOf q)); unfold dmaPay
    (repeat' split) <;> infer_instance

section Sched
variable (c : Dev nD)

omit [FloatOps F] in
theorem duties_bar : (sched X).duties (barCell c) 0 = Finset.univ.erase c := by dsimp only [sched]; exact if_pos ⟨rfl, rfl⟩
omit [FloatOps F] in
theorem duties_used {a : Fin 4} {s : Fin 32} (h : Used c a.val s) : (sched X).duties (dCell c a s) 0 = {0} := by
  dsimp only [sched]; rw [if_pos ⟨rfl, rfl⟩, arrOf_dsem, entOf_dsem]; exact if_pos h
omit [FloatOps F] in
theorem duties_unused {a : Fin 4} {s : Fin 32} (h : ¬ Used c a.val s) (r : ℕ) : (sched X).duties (dCell c a s) r = ∅ := by
  dsimp only [sched]; rw [arrOf_dsem, entOf_dsem, if_neg h]; exact ite_self _
omit [FloatOps F] in
theorem duties_later (g : GSem nD τ sig) (r : ℕ) (hr : 1 ≤ r) : (sched X).duties g r = ∅ := by
  dsimp only [sched]; rw [if_neg fun h => by omega]
omit [FloatOps F] in
theorem amount_bar (d : Dev nD) : (sched X).amount (barCell c) 0 d = 1 := rfl
omit [FloatOps F] in
theorem amount_dma (a : Fin 4) (s : Fin 32) (d : Dev nD) : (sched X).amount (dCell c a s) 0 d = N := rfl
omit [FloatOps F] in
theorem expect_bar : (sched X).expect (barCell c) 0 = 31 := by
  unfold Schedule.expect Schedule.amountOf
  rw [duties_bar, Finset.sum_congr rfl fun d _ => amount_bar X c d, Finset.sum_const, Finset.card_erase_of_mem (Finset.mem_univ _), Finset.card_univ,
    Fintype.card_fin]; rfl
omit [FloatOps F] in
theorem expect_used {a : Fin 4} {s : Fin 32} (h : Used c a.val s) : (sched X).expect (dCell c a s) 0 = N := by
  unfold Schedule.expect Schedule.amountOf; rw [duties_used X c h, Finset.sum_singleton, amount_dma]
omit [FloatOps F] in
theorem payload_bar (d : Dev nD) : (sched X).payload (barCell c) 0 d = barPay c d := rfl
omit [FloatOps F] in
theorem payload_dma (a : Fin 4) (s : Fin 32) (d : Dev nD) : (sched X).payload (dCell c a s) 0 d = dmaPay X c a.val s := by
  show dmaPay X c (arrOf (dsem a s)) (entOf (dsem a s)) = _
  rw [arrOf_dsem, entOf_dsem]
omit [FloatOps F] in
theorem rest_used {a : Fin 4} {s : Fin 32} (h : Used c a.val s) :
    bigSep ((sched X).duties (dCell c a s) 0 \ ∅) (fun d => (sched X).payload (dCell c a s) 0 d) = dmaPay X c a.val s := by
  rw [Finset.sdiff_empty, duties_used X c h, bigSep_singleton, payload_dma]

theorem used_send1 (r : Fin 31) : Used c (0 : Fin 4).val (stepIx r) := stepIx_ne r
theorem used_recv1 {s : Fin 32} (h : s ≠ c) : Used c (1 : Fin 4).val s := h
theorem used_send2 (r : Fin 31) : Used c (2 : Fin 4).val (stepIx r) := stepIx_ne r
theorem used_recv2 {s : Fin 32} (h : s ≠ c) : Used c (3 : Fin 4).val s := h

omit [FloatOps F] in
theorem pay_send1 (r : Fin 31) : dmaPay X c (0 : Fin 4).val (stepIx r) = partPts c (peer c r) (X.part c) := by
  have h : (⟨(c.val + (stepIx r).val) % 32, Nat.mod_lt _ (by decide)⟩ : Dev nD) = peer c r :=
    Fin.ext (by rw [peer_val]; simp only [stepIx]; omega)
  unfold dmaPay; rw [if_pos (show ((0 : Fin 4).val = 0) from rfl), h]
omit [FloatOps F] in
theorem pay_recv1 (s : Fin 32) : dmaPay X c (1 : Fin 4).val s = accPts c s (accOf X.part c) := rfl
omit [FloatOps F] in
theorem pay_send2 (r : Fin 31) : dmaPay X c (2 : Fin 4).val (stepIx r) = redPts c (shareTokN fullShare r.val) (X.red c) := by
  have h : (stepIx r).val - 1 = r.val := by simp only [stepIx]; omega
  unfold dmaPay; rw [if_neg (by decide), if_neg (by decide), if_pos (show ((2 : Fin 4).val = 2) from rfl), h]
omit [FloatOps F] in
theorem pay_recv2 (s : Fin 32) : dmaPay X c (3 : Fin 4).val s = outPts c s (outOf X.red) := rfl

end Sched

/-! ## What is owed, and the levels -/

/-- Tallies owed for the peer steps still to do: the first of the list on top. -/
def owL (f : Fin 31 → CellTallies nD τ sig Unit) : List (Fin 31) → CellTallies nD τ sig Unit
  | [] => 0
  | r :: l => owL f l + f r

theorem owL_pos {f : Fin 31 → CellTallies nD τ sig Unit} {g : GSem nD τ sig} {u : Unit} :
    ∀ {l : List (Fin 31)}, 0 < owL f l g u → ∃ r, 0 < f r g u
  | [], h => absurd h (Nat.lt_irrefl 0)
  | r :: l, h => by
    change 0 < (owL f l + f r) g u at h
    rw [Pi.add_apply, Finsupp.add_apply] at h
    rcases Nat.eq_zero_or_pos (owL f l g u) with h0 | h0
    · exact ⟨r, by omega⟩
    · exact owL_pos h0

theorem owL_sum (f : Fin 31 → CellTallies nD τ sig Unit) : owL f steps = ∑ r, f r := by
  have h : ∀ l : List (Fin 31), owL f l = (l.map f).sum := by
    intro l
    induction l with
    | nil => rfl
    | cons r l ih => rw [List.map_cons, List.sum_cons, ← ih]; exact add_comm _ _
  rw [h, ← List.sum_toFinset f steps_nodup]
  exact congrArg (fun s => Finset.sum s f) (Finset.eq_univ_of_forall fun r => List.mem_toFinset.mpr (mem_steps r))

abbrev obar (c : Dev nD) (r : Fin 31) : CellTallies nD τ sig Unit := tallyAt (barCell (peer c r)) () 1
abbrev orec1 (c : Dev nD) (r : Fin 31) : CellTallies nD τ sig Unit := tallyAt (dCell (peer c r) 1 c) () N
abbrev orec2 (c : Dev nD) (r : Fin 31) : CellTallies nD τ sig Unit := tallyAt (dCell (peer c r) 3 c) () N

/-- After the barrier's signals, after the first exchange's copies, -/
def O₁ (c : Dev nD) : CellTallies nD τ sig Unit := owL (orec2 c) steps + owL (orec1 c) steps
/-- and at launch. -/
def O₀ (c : Dev nD) : CellTallies nD τ sig Unit := O₁ c + owL (obar c) steps

def L (g : GSem nD τ sig) : Finset Unit := if g.1.2 = .tc then {()} else ∅
def lvSem : SemLoc sig → ℕ
  | .reg _ => 1
  | .dma q => if arrOf q = 1 then 2 else if arrOf q = 3 then 3 else 0
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_dma (c : Dev nD) (a : Fin 4) (s : Fin 32) : lv (dCell c a s) () = if a.val = 1 then 2 else if a.val = 3 then 3 else 0 := by
  show (if arrOf (dsem a s) = 1 then 2 else if arrOf (dsem a s) = 3 then 3 else 0) = _
  rw [arrOf_dsem]

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- Every tally owed is on a cell of a main core, above level `cut`. -/
def Above (cut : ℕ) (O : CellTallies nD τ sig Unit) : Prop := ∀ g u, 0 < O g u → g.1.2 = .tc ∧ cut < lv g ()

theorem above_add {cut : ℕ} {O O' : CellTallies nD τ sig Unit} (h : Above cut O) (h' : Above cut O') : Above cut (O + O') := fun g u hg => by
  rw [Pi.add_apply, Finsupp.add_apply] at hg
  rcases Nat.eq_zero_or_pos (O g u) with h0 | h0
  · exact h' g u (by omega)
  · exact h g u h0
theorem above_zero (cut : ℕ) : Above cut 0 := fun g u h => absurd h (Nat.lt_irrefl 0)
theorem above_rec1 (c : Dev nD) (l : List (Fin 31)) : Above 1 (owL (orec1 c) l) := fun g u h => by
  obtain ⟨r, hr⟩ := owL_pos h
  rw [tally_pos hr, lv_dma]; exact ⟨rfl, by decide⟩
theorem above_rec2 (c : Dev nD) (l : List (Fin 31)) : Above 2 (owL (orec2 c) l) := fun g u h => by
  obtain ⟨r, hr⟩ := owL_pos h
  rw [tally_pos hr, lv_dma]; exact ⟨rfl, by decide⟩
theorem above_bar (c : Dev nD) (l : List (Fin 31)) : Above 0 (owL (obar c) l) := fun g u h => by
  obtain ⟨r, hr⟩ := owL_pos h
  rw [tally_pos hr]; exact ⟨rfl, Nat.one_pos⟩
theorem Above.mono {cut cut' : ℕ} {O : CellTallies nD τ sig Unit} (h : Above cut O) (hc : cut' ≤ cut) : Above cut' O :=
  fun g u hg => ⟨(h g u hg).1, lt_of_le_of_lt hc (h g u hg).2⟩
theorem above_O₁ (c : Dev nD) : Above 1 (O₁ c) := above_add ((above_rec2 c _).mono (by decide)) (above_rec1 c _)
theorem above_O₀ (c : Dev nD) : Above 0 (O₀ c) := above_add ((above_O₁ c).mono (by decide)) (above_bar c _)

omit [FloatOps F] in
/-- A wait below everything owed is allowed. -/
theorem mayWait_above {cut : ℕ} {O : CellTallies nD τ sig Unit} (hO : Above cut O) (c : Dev nD) (sm : SemLoc sig) (h : lvSem sm ≤ cut) :
    (levAts L lv : sProp 𝕄) ⊢ MayWait (c : Thread nD τ) sm () O :=
  MayOwe.of_cut (L := L) (lev := lv) cut
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

/-! ## Records: the cells' invariants and that round 0 of each is reached -/

def records (K : Dev nD × Option (Fin 4 × Fin 32) → ℕ) : sProp 𝕄 :=
  iprop((bigSep Finset.univ fun ck : Dev nD × Option (Fin 4 × Fin 32) => cellInv ER (sched X) (K ck) (kcell ck))
    ∗ bigSep Finset.univ fun ck : Dev nD × Option (Fin 4 × Fin 32) => reached ER (kcell ck) 0)

omit [FloatOps F] in
instance records_persistent (K : Dev nD × Option (Fin 4 × Fin 32) → ℕ) : BI.Persistent (records X K) := by unfold records; infer_instance

omit [FloatOps F] in
theorem inv_at (K : Dev nD × Option (Fin 4 × Fin 32) → ℕ) (ck : Dev nD × Option (Fin 4 × Fin 32)) :
    (bigSep Finset.univ fun ck : Dev nD × Option (Fin 4 × Fin 32) => (cellInv ER (sched X) (K ck) (kcell ck) : sProp 𝕄)) ⊢ cellInv ER (sched X) (K ck) (kcell ck) :=
  bigSep_elim (Finset.mem_univ ck)
omit [FloatOps F] in
theorem reached_at (ck : Dev nD × Option (Fin 4 × Fin 32)) :
    (bigSep Finset.univ fun ck : Dev nD × Option (Fin 4 × Fin 32) => (reached ER (kcell ck) 0 : sProp 𝕄)) ⊢ reached ER (kcell ck) 0 :=
  bigSep_elim (Finset.mem_univ ck)
omit [FloatOps F] in
theorem inv_bar (K : Dev nD × Option (Fin 4 × Fin 32) → ℕ) (c : Dev nD) : records X K ⊢ cellInv ER (sched X) (K (c, none)) (barCell c) := by
  unfold records
  iintro ⟨H, -⟩
  iapply (inv_at X K (c, none)); iexact H
omit [FloatOps F] in
theorem inv_dma (K : Dev nD × Option (Fin 4 × Fin 32) → ℕ) (c : Dev nD) (a : Fin 4) (s : Fin 32) : records X K ⊢ cellInv ER (sched X) (K (c, some (a, s))) (dCell c a s) := by
  unfold records
  iintro ⟨H, -⟩
  iapply (inv_at X K (c, some (a, s))); iexact H
omit [FloatOps F] in
theorem reached_bar (K : Dev nD × Option (Fin 4 × Fin 32) → ℕ) (c : Dev nD) : records X K ⊢ reached ER (barCell c) 0 := by
  unfold records
  iintro ⟨-, H⟩
  iapply (reached_at (c, none)); iexact H
omit [FloatOps F] in
theorem reached_dma (K : Dev nD × Option (Fin 4 × Fin 32) → ℕ) (c : Dev nD) (a : Fin 4) (s : Fin 32) : records X K ⊢ reached ER (dCell c a s) 0 := by
  unfold records
  iintro ⟨-, H⟩
  iapply (reached_at (c, some (a, s))); iexact H

/-! ## Families over the peer steps -/

omit [FloatOps F] in
/-- A family over the peer steps, in program order. -/
theorem bigSep_steps (Φ : Fin 31 → sProp 𝕄) : bigSep Finset.univ Φ = bigSepM (steps : Multiset (Fin 31)) Φ :=
  congrArg (fun s => bigSepM s Φ) (show (Finset.univ : Finset (Fin 31)).val = (steps : Multiset (Fin 31)) by decide)

omit [FloatOps F] in
theorem bigSepM_coe_nil {I : Type} (Φ : I → sProp 𝕄) : bigSepM (([] : List I) : Multiset I) Φ = iprop(emp) := rfl
omit [FloatOps F] in
theorem bigSepM_coe_cons {I : Type} (i : I) (l : List I) (Φ : I → sProp 𝕄) :
    bigSepM ((i :: l : List I) : Multiset I) Φ = iprop(Φ i ∗ bigSepM (l : Multiset I) Φ) := bigSepM_cons i (l : Multiset I) Φ

omit [FloatOps F] in
/-- All but one of 32, by an injective family of 31 that misses it. -/
theorem bigSep_erase_steps {f : Fin 31 → Fin 32} (hf : Function.Injective f) {x : Fin 32} (hx : ∀ r, f r ≠ x) (Φ : Fin 32 → sProp 𝕄) :
    bigSep (Finset.univ.erase x) Φ = bigSepM (steps : Multiset (Fin 31)) fun r => Φ (f r) := by
  rw [erase_eq_map hf hx, bigSep_map, bigSep_steps]; rfl

omit [FloatOps F] in
theorem bigSep_split_steps {f : Fin 31 → Fin 32} (hf : Function.Injective f) {x : Fin 32} (hx : ∀ r, f r ≠ x) (Φ : Fin 32 → sProp 𝕄) :
    bigSep Finset.univ Φ = iprop(Φ x ∗ bigSepM (steps : Multiset (Fin 31)) fun r => Φ (f r)) := by
  rw [← bigSep_erase_steps hf hx]; exact BI.bigSep_univ_split x

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem bigSep_option {I : Type} [Fintype I] [DecidableEq I] (Φ : Option I → sProp 𝕄) :
    bigSep Finset.univ Φ = iprop(Φ none ∗ bigSep Finset.univ fun i => Φ (some i)) := by
  have h : (Finset.univ.erase none : Finset (Option I)) = Finset.univ.map Function.Embedding.some := by
    ext x; cases x <;> simp
  have e : bigSep Finset.univ Φ = iprop(Φ none ∗ bigSep (Finset.univ.erase none) Φ) := BI.bigSep_univ_split none
  rw [e, h, bigSep_map]; rfl

end Cert.KProof

end
-- ==== Proof.Steps.lean ====
/-
The kernel's loops, step by step: what each copy, signal and wait takes and gives, and the loops over the 31 peer steps
from their steps.
-/
module

public import proofs.«01_k».proof.Proof.Proto

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The tiles as the copies name them -/

theorem part_set {o : Fin 2 → ℕ} {s : Dev nD} (h : o = partOff s) (p : ∀ a, o a + S16x256.size a ≤ S256x512.size a) :
    (partM.slice (Rect.unit (s := S256x512) o S16x256.size p) (fun _ => rfl)).view.set = (partRect s).set := by
  subst h; exact View.set_slice_whole _ _
theorem acc_set {o : Fin 3 → ℕ} {s : Dev nD} (h : o = accOff s) (p : ∀ a, o a + S1x16x256.size a ≤ S32x16x256.size a) :
    ((accM.slice (Rect.unit (s := S32x16x256) o S1x16x256.size p) (fun _ => rfl)).squeeze S16x256 squeezes_S1x16x256_S16x256).view.set = (accRect s).set := by
  subst h; exact (View.set_reshape _ _).trans (View.set_slice_whole _ _)
theorem out_set {o : Fin 3 → ℕ} {s : Dev nD} (h : o = outOff s) (p : ∀ a, o a + S1x16x256.size a ≤ S2x128x512.size a) :
    ((outM.slice (Rect.unit (s := S2x128x512) o S1x16x256.size p) (fun _ => rfl)).squeeze S16x256 squeezes_S1x16x256_S16x256).view.set = (outRect s).set := by
  subst h; exact (View.set_reshape _ _).trans (View.set_slice_whole _ _)
theorem partTile_set (c : Dev nD) (r : Fin 31) : (partTile partM c r).view.set = (partRect (peer c r)).set := part_set (off3_eq c r) _
theorem accOwn_set (c : Dev nD) : (accOwn accM c).view.set = (accRect c).set := acc_set (k0_off2_eq c) _
theorem outOwn_set (c : Dev nD) : (outOwn outM c).view.set = (outRect c).set := out_set (k0_off9_eq c) _
theorem red_set : (redM : Memref sig .tc .vmem S16x256 .bf16).view.set = Finset.univ := View.set_whole _

theorem part_read {o : Fin 2 → ℕ} {s : Dev nD} (h : o = partOff s) (p : ∀ a, o a + S16x256.size a ≤ S256x512.size a) (f : Vec F S256x512 .bf16) :
    (partM.slice (Rect.unit (s := S256x512) o S16x256.size p) (fun _ => rfl)).view.read (Elt F) f = tileOf f s := by
  subst h; rfl
theorem partTile_read (c : Dev nD) (r : Fin 31) (f : Vec F S256x512 .bf16) :
    (partTile partM c r).view.read (Elt F) f = tileOf f (peer c r) := part_read (off3_eq c r) _ f
theorem red_read (f : Vec F S16x256 .bf16) : (redM : Memref sig .tc .vmem S16x256 .bf16).view.read (Elt F) f = f := View.read_whole _ _

theorem acc_emb {o : Fin 3 → ℕ} {s : Dev nD} (h : o = accOff s) (p : ∀ a, o a + S1x16x256.size a ≤ S32x16x256.size a) (x : Fin 16) (y : Fin 256) :
    (((accM.slice (Rect.unit (s := S32x16x256) o S1x16x256.size p) (fun _ => rfl)).squeeze S16x256 squeezes_S1x16x256_S16x256).view.emb (ix2 x y) : S32x16x256.Idx)
      = ix3 (⟨s.val, s.isLt⟩ : Fin 32) x y := by
  subst h
  exact (congrArg (accRect s).emb (reshapeEquiv_ix2_1ab _ x y)).trans (accRect_emb s x y)
theorem out_emb {o : Fin 3 → ℕ} {s : Dev nD} (h : o = outOff s) (p : ∀ a, o a + S1x16x256.size a ≤ S2x128x512.size a) (x : Fin 16) (y : Fin 256) :
    (((outM.slice (Rect.unit (s := S2x128x512) o S1x16x256.size p) (fun _ => rfl)).squeeze S16x256 squeezes_S1x16x256_S16x256).view.emb (ix2 x y) : S2x128x512.Idx)
      = (outRect s).emb (ix3 (⟨0, Nat.one_pos⟩ : Fin 1) x y) := by
  subst h
  exact congrArg (outRect s).emb (reshapeEquiv_ix2_1ab _ x y)

/-- The copy of the tile of device `c` for `d` leaves in slot `c` of `d` what the filled accumulator has there. -/
theorem acc_landed (P : Dev nD → Vec F S256x512 .bf16) (c d : Dev nD) (fd : Vec F S32x16x256 .bf16) (i : S32x16x256.Idx) (hi : i ∈ (accOwn accM c).view.set) :
    (accOwn accM c).view.write (Elt F) fd (tileOf (P c) d) Finset.univ i = accOf P d i := by
  obtain ⟨x, -, rfl⟩ := Finset.mem_map.mp hi
  obtain ⟨x, y, rfl⟩ : ∃ (a : Fin 16) (b : Fin 256), x = ix2 a b := ⟨x 0, x 1, eq_ix2 x⟩
  rw [View.write_emb_of_mem _ _ (Finset.mem_univ _)]
  have h : ((accOwn accM c).view.emb (ix2 x y) : S32x16x256.Idx) = ix3 (⟨c.val, c.isLt⟩ : Fin 32) x y := acc_emb (k0_off2_eq c) _ x y
  exact (congrArg (accOf P d) h).symm

/-- The copy of the reduced tile of device `c` leaves in tile `c` what the filled result has there. -/
theorem out_landed (Q : Dev nD → Vec F S16x256 .bf16) (c : Dev nD) (fd : Vec F S2x128x512 .bf16) (i : S2x128x512.Idx) (hi : i ∈ (outOwn outM c).view.set) :
    (outOwn outM c).view.write (Elt F) fd (Q c) Finset.univ i = outOf Q i := by
  obtain ⟨x, -, rfl⟩ := Finset.mem_map.mp hi
  obtain ⟨x, y, rfl⟩ : ∃ (a : Fin 16) (b : Fin 256), x = ix2 a b := ⟨x 0, x 1, eq_ix2 x⟩
  rw [View.write_emb_of_mem _ _ (Finset.mem_univ _)]
  have h : ((outOwn outM c).view.emb (ix2 x y) : S2x128x512.Idx) = (outRect c).emb (ix3 (⟨0, Nat.one_pos⟩ : Fin 1) x y) := out_emb (k0_off9_eq c) _ x y
  exact ((congrArg (outOf Q) h).trans (outOf_emb Q c x y)).symm

theorem partPts_eq (c : Dev nD) (r : Fin 31) (f : Vec F S256x512 .bf16) :
    (partPts c (peer c r) f : sProp 𝕄) = ((partTile partM c r).view.loc (c : Thread nD τ) ↦[(partTile partM c r).view.set]{fullShare} f) := by
  rw [partTile_set]; rfl
theorem accPts_eq (c d : Dev nD) (f : Vec F S32x16x256 .bf16) :
    (accPts d c f : sProp 𝕄) = ((accOwn accM c).view.loc (d : Thread nD τ) ↦[(accOwn accM c).view.set]{fullShare} f) := by
  rw [accOwn_set]; rfl
theorem outPts_eq (c d : Dev nD) (f : Vec F S2x128x512 .bf16) :
    (outPts d c f : sProp 𝕄) = ((outOwn outM c).view.loc (d : Thread nD τ) ↦[(outOwn outM c).view.set]{fullShare} f) := by
  rw [outOwn_set]; rfl
theorem redPts_eq (c : Dev nD) (q : PosShare TreeShare) (f : Vec F S16x256 .bf16) :
    (redPts c q f : sProp 𝕄) = ((redM : Memref sig .tc .vmem S16x256 .bf16).view.loc (c : Thread nD τ) ↦[(redM : Memref sig .tc .vmem S16x256 .bf16).view.set]{q} f) := by
  rw [red_set]; rfl

/-! ## Loops -/

abbrev WP (c : Dev nD) (k : KProg F) (Kt : PUnit.{1} → sProp 𝕄) : sProp 𝕄 :=
  wp frame (wpE (defs₀ (F := F)) 𝒱₀ (c : Thread nD τ) none) Set.univ k Kt

variable (X : Data F) (K : Dev nD × Option (Fin 4 × Fin 32) → ℕ)

/-- A loop from its steps: each step turns its own `A r` into `B r`, the rest `R` passing along. -/
theorem wp_loop (Kt : PUnit.{1} → sProp 𝕄) (c : Dev nD) (step : Fin 31 → KProg F → KProg F) (A B : Fin 31 → sProp 𝕄) (R : List (Fin 31) → sProp 𝕄)
    (hstep : ∀ r l k, iprop(A r ∗ R (r :: l)) ⊢ iprop(((B r ∗ R l) -∗ WP c k Kt) -∗ WP c (step r k) Kt)) :
    ∀ (l : List (Fin 31)) (k : KProg F), iprop(bigSepM (l : Multiset (Fin 31)) A ∗ R l)
      ⊢ iprop(((bigSepM (l : Multiset (Fin 31)) B ∗ R []) -∗ WP c k Kt) -∗ WP c (loop step l k) Kt)
  | [], k => by
    rw [bigSepM_coe_nil, bigSepM_coe_nil]
    unfold loop
    iintro ⟨-, HR⟩ Hk
    iapply Hk
    isplitr; · iempintro
    iexact HR
  | r :: l, k => by
    rw [bigSepM_coe_cons, bigSepM_coe_cons]
    unfold loop
    iintro ⟨⟨HA, HAs⟩, HR⟩ Hk
    iapply (hstep r l (loop step l k)) $$ [HA HR]
    · isplitl [HA] <;> iassumption
    iintro ⟨HB, HR⟩
    iapply (wp_loop Kt c step A B R hstep l k) $$ [HAs HR]
    · isplitl [HAs] <;> iassumption
    iintro ⟨HBs, HR⟩
    iapply Hk
    isplitr [HR]
    · isplitl [HB] <;> iassumption
    iexact HR

/-- What passes along: the records, the levels, and the account of what is owed. -/
def along (c : Dev nD) (O : CellTallies nD τ sig Unit) : sProp 𝕄 :=
  iprop(records X K ∗ levAts L lv ∗ ∃ W : Waits sig Unit, owes (c : Thread nD τ) O W)

/-- The barrier's signal to the peer at step `r`: the peer's slot and tile are handed over. -/
theorem wp_sig (Kt : PUnit.{1} → sProp 𝕄) (c : Dev nD) (O : CellTallies nD τ sig Unit) (r : Fin 31) (k : KProg F) :
    iprop((dutyTok ER (barCell (peer c r)) 0 c ∗ (∃ f, accPts (F := F) c (peer c r) f) ∗ ∃ f, outPts (F := F) c (peer c r) f) ∗ along X K c (O + obar c r))
      ⊢ iprop(((emp ∗ along X K c O) -∗ WP c k Kt) -∗ WP c (sigStep c r k) Kt) := by
  unfold along sigStep
  iintro ⟨⟨Ht, Hacc, Hout⟩, #Hrec, #Hlev, ⟨%W, HO⟩⟩ Hk
  iapply (Rounds.wp_signal 𝒱₀ ER (sched X) (c : Thread nD τ) none (dst := (peer c r : Thread nD τ)) (κ := K (peer c r, none))
      (d := c) (by rw [duties_bar]; exact Finset.mem_erase.mpr ⟨(peer_ne c r).symm, Finset.mem_univ _⟩) ((amount_bar X (peer c r) c).trans (by decide)) () O rfl)
    $$ [HO Ht Hacc Hout]
  · isplitr; · iapply (inv_bar X K (peer c r)); iexact Hrec
    isplitl [HO]; · iexact HO
    isplitl [Ht]; · iexact Ht
    isplitl
    · rw [payload_bar]; unfold barPay
      isplitl [Hacc] <;> iassumption
    iapply (reached_bar X K (peer c r)); iexact Hrec
  iintro HO
  iapply Hk
  isplitr; · iempintro
  isplitr; · iexact Hrec
  isplitr; · iexact Hlev
  iexists W; iexact HO

theorem send1_back (c : Dev nD) (r : Fin 31) :
    (((partTile partM c r).view.loc (c : Thread nD τ) ↦[(partTile partM c r).view.set]{fullShare} (X.part c)) : sProp 𝕄)
      ⊢ (sched X).payload (dCell c 0 (stepIx r)) 0 0 := by
  rw [payload_dma, pay_send1, partPts_eq]
theorem send1_land (c : Dev nD) (r : Fin 31) (fd : Vec F S32x16x256 .bf16) :
    (((accOwn accM c).view.loc (peer c r : Thread nD τ) ↦[(accOwn accM c).view.set]{fullShare}
        ((accOwn accM c).view.write (Elt F) fd ((partTile partM c r).view.read (Elt F) (X.part c)) Finset.univ)) : sProp 𝕄)
      ⊢ (sched X).payload (dCell (peer c r) 1 c) 0 0 := by
  rw [payload_dma, pay_recv1, accPts_eq, partTile_read]
  exact Entails.of_eq (pointsTo_congr fun i hi => acc_landed X.part c (peer c r) fd i hi)
theorem send2_back (c : Dev nD) (r : Fin 31) :
    (((redM : Memref sig .tc .vmem S16x256 .bf16).view.loc (c : Thread nD τ)
        ↦[(redM : Memref sig .tc .vmem S16x256 .bf16).view.set]{shareTokN fullShare r.val} (X.red c)) : sProp 𝕄)
      ⊢ (sched X).payload (dCell c 2 (stepIx r)) 0 0 := by
  rw [payload_dma, pay_send2, redPts_eq]
theorem send2_land (c : Dev nD) (r : Fin 31) (fd : Vec F S2x128x512 .bf16) :
    (((outOwn outM c).view.loc (peer c r : Thread nD τ) ↦[(outOwn outM c).view.set]{fullShare}
        ((outOwn outM c).view.write (Elt F) fd ((redM : Memref sig .tc .vmem S16x256 .bf16).view.read (Elt F) (X.red c)) Finset.univ)) : sProp 𝕄)
      ⊢ (sched X).payload (dCell (peer c r) 3 c) 0 0 := by
  rw [payload_dma, pay_recv2, outPts_eq, red_read]
  exact Entails.of_eq (pointsTo_congr fun i hi => out_landed X.red c fd i hi)

/-- A copy of the first exchange. -/
theorem wp_send1 (Kt : PUnit.{1} → sProp 𝕄) (c : Dev nD) (O : CellTallies nD τ sig Unit) (r : Fin 31) (k : KProg F) :
    iprop((dutyTok ER (dCell c 0 (stepIx r)) 0 0 ∗ dutyTok ER (dCell (peer c r) 1 c) 0 0 ∗ partPts c (peer c r) (X.part c) ∗ ∃ f, accPts (F := F) (peer c r) c f)
        ∗ along X K c (O + orec1 c r))
      ⊢ iprop(((cred (tallyAt (dCell c 0 (stepIx r)) () N) ∗ along X K c O) -∗ WP c k Kt)
          -∗ WP c (send1Step partM (Memref.isWhole_whole _) accM (Memref.isWhole_whole _) cc0_scratch3 cc0_scratch4 c r k) Kt) := by
  unfold along
  simp only [send1Step, semStep_3, semOwn_4]
  iintro ⟨⟨Ht, Ht', Hsrc, ⟨%fd, Hdst⟩⟩, #Hrec, #Hlev, ⟨%W, HO⟩⟩ Hk
  iapply (Rounds.wp_send_pointsTo 𝒱₀ ER (sched X) (c : Thread nD τ) none (c' := (peer c r : Thread nD τ)) (src := partTile partM c r) (dst := accOwn accM c)
    (sS := .dma (dsem 0 (stepIx r))) (sem := .dma (dsem 1 c)) (κ₁ := K (c, some (0, stepIx r))) (κ₂ := K (peer c r, some (1, c)))
    (q := fullShare) (fs := X.part c) (fd := fd) (r₁ := 0) (r₂ := 0) (d₁ := 0) (d₂ := 0)
    (by rw [duties_used X c (used_send1 c r)]; exact Finset.mem_singleton_self _)
    (by rw [duties_used X (peer c r) (used_recv1 (peer c r) (peer_ne c r).symm)]; exact Finset.mem_singleton_self _)
    () () N (credit_accOwn c) (amount_dma X c 0 (stepIx r) 0) (amount_dma X (peer c r) 1 c 0) O rfl (W := W)
    (send1_back X c r) (send1_land X c r fd))
    $$ [HO Ht Ht' Hsrc Hdst]
  · isplitr; · iapply (inv_dma X K c 0 (stepIx r)); iexact Hrec
    isplitr; · iapply (inv_dma X K (peer c r) 1 c); iexact Hrec
    isplitl [Hsrc]; · iapply (Entails.of_eq (partPts_eq c r (X.part c))); iexact Hsrc
    isplitl [Hdst]; · iapply (Entails.of_eq (accPts_eq c (peer c r) fd)); iexact Hdst
    isplitl [HO]; · iexact HO
    isplitl [Ht]; · iexact Ht
    isplitr; · iapply (reached_dma X K c 0 (stepIx r)); iexact Hrec
    isplitl [Ht']; · iexact Ht'
    iapply (reached_dma X K (peer c r) 1 c); iexact Hrec
  iintro ⟨Hc, HO⟩
  iapply Hk
  isplitl [Hc]; · iexact Hc
  isplitr; · iexact Hrec
  isplitr; · iexact Hlev
  iexists W; iexact HO

/-- A copy of the second exchange. -/
theorem wp_send2 (Kt : PUnit.{1} → sProp 𝕄) (c : Dev nD) (O : CellTallies nD τ sig Unit) (r : Fin 31) (k : KProg F) :
    iprop((dutyTok ER (dCell c 2 (stepIx r)) 0 0 ∗ dutyTok ER (dCell (peer c r) 3 c) 0 0 ∗ redPts c (shareTokN fullShare r.val) (X.red c) ∗ ∃ f, outPts (F := F) (peer c r) c f)
        ∗ along X K c (O + orec2 c r))
      ⊢ iprop(((cred (tallyAt (dCell c 2 (stepIx r)) () N) ∗ along X K c O) -∗ WP c k Kt)
          -∗ WP c (send2Step outM (Memref.isWhole_whole _) redM (Memref.isWhole_whole _) cc0_scratch5 cc0_scratch6 c r k) Kt) := by
  unfold along
  simp only [send2Step, semStep_5, semOwn_6]
  iintro ⟨⟨Ht, Ht', Hsrc, ⟨%fd, Hdst⟩⟩, #Hrec, #Hlev, ⟨%W, HO⟩⟩ Hk
  iapply (Rounds.wp_send_pointsTo 𝒱₀ ER (sched X) (c : Thread nD τ) none (c' := (peer c r : Thread nD τ)) (src := redM) (dst := outOwn outM c)
    (sS := .dma (dsem 2 (stepIx r))) (sem := .dma (dsem 3 c)) (κ₁ := K (c, some (2, stepIx r))) (κ₂ := K (peer c r, some (3, c)))
    (q := shareTokN fullShare r.val) (fs := X.red c) (fd := fd) (r₁ := 0) (r₂ := 0) (d₁ := 0) (d₂ := 0)
    (by rw [duties_used X c (used_send2 c r)]; exact Finset.mem_singleton_self _)
    (by rw [duties_used X (peer c r) (used_recv2 (peer c r) (peer_ne c r).symm)]; exact Finset.mem_singleton_self _)
    () () N (credit_outOwn c) (amount_dma X c 2 (stepIx r) 0) (amount_dma X (peer c r) 3 c 0) O rfl (W := W)
    (send2_back X c r) (send2_land X c r fd))
    $$ [HO Ht Ht' Hsrc Hdst]
  · isplitr; · iapply (inv_dma X K c 2 (stepIx r)); iexact Hrec
    isplitr; · iapply (inv_dma X K (peer c r) 3 c); iexact Hrec
    isplitl [Hsrc]; · iapply (Entails.of_eq (redPts_eq c (shareTokN fullShare r.val) (X.red c))); iexact Hsrc
    isplitl [Hdst]; · iapply (Entails.of_eq (outPts_eq c (peer c r) fd)); iexact Hdst
    isplitl [HO]; · iexact HO
    isplitl [Ht]; · iexact Ht
    isplitr; · iapply (reached_dma X K c 2 (stepIx r)); iexact Hrec
    isplitl [Ht']; · iexact Ht'
    iapply (reached_dma X K (peer c r) 3 c); iexact Hrec
  iintro ⟨Hc, HO⟩
  iapply Hk
  isplitl [Hc]; · iexact Hc
  isplitr; · iexact Hrec
  isplitr; · iexact Hlev
  iexists W; iexact HO

/-- A wait on a used transfer semaphore below everything owed. -/
theorem wp_wait_used (Kt : PUnit.{1} → sProp 𝕄) (c : Dev nD) {cut : ℕ} {O : CellTallies nD τ sig Unit} (hO : Above cut O) {a : Fin 4} {s : Fin 32} (hu : Used c a.val s)
    (hl : lvSem (.dma (dsem a s)) ≤ cut) {sp sp' : Space} {sh sh' : Shape} {e e' : EltTy}
    {src : Memref sig .tc sp' sh' e'} {dst : Memref sig .tc sp sh e} {hsrc : src.view.WordExact} {hdst : dst.view.WordExact}
    (hN : dst.view.dmaCredit = N) (k : PUnit → KProg F) :
    iprop((cred (tallyAt (dCell c a s) () N) ∗ atPos ER (dCell c a s) 0 ∅ 0) ∗ along X K c O)
      ⊢ iprop((((atPos ER (dCell c a s) 1 ∅ 0 ∗ dmaPay X c a.val s) ∗ along X K c O) -∗ WP c (k ⟨⟩) Kt)
          -∗ WP c (.op (.waitDma2 (dsem a s) src dst hsrc hdst) k) Kt) := by
  unfold along
  iintro ⟨⟨Hc, Hat⟩, #Hrec, #Hlev, ⟨%W, HO⟩⟩ Hk
  iapply (Rounds.wp_wait_rest_token 𝒱₀ ER (sched X) (c : Thread nD τ) none (κ := K (c, some (a, s)))
      (wpE_waitDma2_eq 𝒱₀ (c : Thread nD τ) none Set.univ) (Set.mem_univ _) () (O := O) (W := W) (R := 0) (m := 0) (T := ∅)
      (by rw [Nat.zero_add, expect_used X c hu, hN])) $$ [Hc HO Hat]
  · isplitr; · iapply (inv_dma X K c a s); iexact Hrec
    isplitl [Hc]; · rw [hN]; iexact Hc
    isplitl [HO]; · iexact HO
    isplitr; · iapply (mayWait_above hO c (.dma (dsem a s)) hl); iexact Hlev
    iexact Hat
  iintro ⟨HO, Hat, -, Hpay⟩
  ihave Hpay := (Entails.of_eq (rest_used X c hu)) $$ Hpay
  iapply Hk
  isplitl [Hat Hpay]
  · isplitl [Hat] <;> iassumption
  isplitr; · iexact Hrec
  isplitr; · iexact Hlev
  iexists _; iexact HO

theorem lvSem_dsem (a : Fin 4) (s : Fin 32) : lvSem (.dma (dsem a s)) = if a.val = 1 then 2 else if a.val = 3 then 3 else 0 := by
  show (if arrOf (dsem a s) = 1 then 2 else if arrOf (dsem a s) = 3 then 3 else 0) = _
  rw [arrOf_dsem]

/-- The wait for one's own copy of the first exchange: the tile is back. -/
theorem wp_wait1 (Kt : PUnit.{1} → sProp 𝕄) (c : Dev nD) {cut : ℕ} {O : CellTallies nD τ sig Unit} (hO : Above cut O) (r : Fin 31) (k : KProg F) :
    iprop((cred (tallyAt (dCell c 0 (stepIx r)) () N) ∗ atPos ER (dCell c 0 (stepIx r)) 0 ∅ 0) ∗ along X K c O)
      ⊢ iprop((((atPos ER (dCell c 0 (stepIx r)) 1 ∅ 0 ∗ partPts c (peer c r) (X.part c)) ∗ along X K c O) -∗ WP c k Kt)
          -∗ WP c (wait1Step partM (Memref.isWhole_whole _) accM (Memref.isWhole_whole _) cc0_scratch3 c r k) Kt) := by
  unfold wait1Step
  rw [← pay_send1]
  have e1 := semStep_3 r
  generalize semStep cc0_scratch3 r = q1 at e1 ⊢
  subst e1
  exact wp_wait_used X K Kt c hO (used_send1 c r) (by rw [lvSem_dsem]; exact Nat.zero_le _) (credit_part c r) fun _ => k

/-- The wait for one's own copy of the second exchange: the share is back. -/
theorem wp_wait2 (Kt : PUnit.{1} → sProp 𝕄) (c : Dev nD) {cut : ℕ} {O : CellTallies nD τ sig Unit} (hO : Above cut O) (r : Fin 31) (k : KProg F) :
    iprop((cred (tallyAt (dCell c 2 (stepIx r)) () N) ∗ atPos ER (dCell c 2 (stepIx r)) 0 ∅ 0) ∗ along X K c O)
      ⊢ iprop((((atPos ER (dCell c 2 (stepIx r)) 1 ∅ 0 ∗ redPts c (shareTokN fullShare r.val) (X.red c)) ∗ along X K c O) -∗ WP c k Kt)
          -∗ WP c (wait2Step outM (Memref.isWhole_whole _) redM (Memref.isWhole_whole _) cc0_scratch5 c r k) Kt) := by
  unfold wait2Step
  rw [← pay_send2]
  have e1 := semStep_5 r
  generalize semStep cc0_scratch5 r = q1 at e1 ⊢
  subst e1
  exact wp_wait_used X K Kt c hO (used_send2 c r) (by rw [lvSem_dsem]; exact Nat.zero_le _) credit_red fun _ => k

/-- The wait for a reduced tile. -/
theorem wp_recv2 (Kt : PUnit.{1} → sProp 𝕄) (c : Dev nD) {O : CellTallies nD τ sig Unit} (hO : Above 3 O) (r : Fin 31) (k : KProg F) :
    iprop((cred (tallyAt (dCell c 3 (src c r)) () N) ∗ atPos ER (dCell c 3 (src c r)) 0 ∅ 0) ∗ along X K c O)
      ⊢ iprop((((atPos ER (dCell c 3 (src c r)) 1 ∅ 0 ∗ outPts c (src c r) (outOf X.red)) ∗ along X K c O) -∗ WP c k Kt)
          -∗ WP c (recv2Step outM (Memref.isWhole_whole _) redM (Memref.isWhole_whole _) cc0_scratch6 c r k) Kt) := by
  unfold recv2Step
  have e1 := semSrc_6 c r
  generalize semSrc cc0_scratch6 c r = q1 at e1 ⊢
  subst e1
  exact wp_wait_used X K Kt c hO (used_recv2 c (src_ne c r)) (by rw [lvSem_dsem]; decide) (credit_outSrc c r) fun _ => k

/-! ## The sums of the first exchange -/

/-- Slot `s` of a filled accumulator, as the kernel loads it. -/
def slotOf (f : Vec F S32x16x256 .bf16) (s : Dev nD) : Vec F S1x16x256 .bf16 := fun i => f ((accRect s).emb i)

theorem acc_loaded {o : Fin 3 → ℕ} {s : Dev nD} (h : o = accOff s) (p : ∀ a, o a + S1x16x256.size a ≤ S32x16x256.size a) (f : Vec F S32x16x256 .bf16) :
    ((accM : Memref sig .tc .vmem S32x16x256 .bf16).access (Rect.unit (s := S32x16x256) o S1x16x256.size p)).read (Elt F) f = slotOf f s := by
  subst h; rfl
theorem acc_access {o : Fin 3 → ℕ} {s : Dev nD} (h : o = accOff s) (p : ∀ a, o a + S1x16x256.size a ≤ S32x16x256.size a) :
    ((accM : Memref sig .tc .vmem S32x16x256 .bf16).access (Rect.unit (s := S32x16x256) o S1x16x256.size p)).set = (accRect s).set := by
  subst h; exact View.set_slice_whole _ _

theorem wp_load_acc (Kt : PUnit.{1} → sProp 𝕄) (c : Dev nD) {o : Fin 3 → ℕ} {s : Dev nD} (h : o = accOff s)
    (p : ∀ a, o a + S1x16x256.size a ≤ S32x16x256.size a) (f : Vec F S32x16x256 .bf16)
    (hl : (accM : Memref sig .tc .vmem S32x16x256 .bf16).view.LoadsAt (Rect.unit (s := S32x16x256) o S1x16x256.size p).toLoadRect)
    (k : Vec F S1x16x256 .bf16 → KProg F) :
    accPts c s f ⊢ iprop((accPts c s f -∗ WP c (k (slotOf f s)) Kt)
      -∗ WP c (.op (.load accM (Rect.unit (s := S32x16x256) o S1x16x256.size p).toLoadRect hl) k) Kt) := by
  rw [← acc_loaded h p f]
  exact wp_load_rect 𝒱₀ (c : Thread nD τ) none Set.univ (m := accM) (r := Rect.unit (s := S32x16x256) o S1x16x256.size p) (hl := hl) (k := k)
    (S := (accRect s).set) (q := fullShare) (f := f) (acc_access h p).subset

/-- The waits for the tiles of the devices behind, their loads and their sum. -/
theorem wp_recv1 (Kt : PUnit.{1} → sProp 𝕄) (c : Dev nD) {O : CellTallies nD τ sig Unit} (hO : Above 2 O) :
    ∀ (l : List (Fin 31)) (a : FVec F S16x256 .f32) (k : FVec F S16x256 .f32 → KProg F),
    iprop(bigSepM (l : Multiset (Fin 31)) (fun r => iprop(cred (tallyAt (dCell c 1 (src c r)) () N) ∗ atPos ER (dCell c 1 (src c r)) 0 ∅ 0)) ∗ along X K c O)
      ⊢ iprop(((bigSepM (l : Multiset (Fin 31)) (fun r => iprop(atPos ER (dCell c 1 (src c r)) 1 ∅ 0 ∗ accPts c (src c r) (accOf X.part c))) ∗ along X K c O)
            -∗ WP c (k (l.foldl (fun a r => addTile a (slotOf (accOf X.part c) (src c r))) a)) Kt)
          -∗ WP c (recv1 partM (Memref.isWhole_whole _) accM (Memref.isWhole_whole _) cc0_scratch4 c l a k) Kt)
  | [], a, k => by
    rw [bigSepM_coe_nil, bigSepM_coe_nil]
    unfold recv1
    iintro ⟨-, HR⟩ Hk
    iapply Hk
    isplitr; · iempintro
    iexact HR
  | r :: l, a, k => by
    rw [bigSepM_coe_cons, bigSepM_coe_cons]
    unfold recv1
    have e1 := semSrc_4 c r
    generalize semSrc cc0_scratch4 c r = q1 at e1 ⊢
    subst e1
    iintro ⟨⟨HA, HAs⟩, HR⟩ Hk
    iapply (wp_wait_used X K Kt c hO (used_recv1 c (src_ne c r)) (by rw [lvSem_dsem]; decide)
      (hsrc := (Memref.IsWhole.wordExact_slice (Memref.isWhole_whole _) rfl _ wordsbf16_S256x512_S16x256_0_0))
      (hdst := (Memref.IsWhole.wordExact_slice (Memref.isWhole_whole _) rfl _ (k0_off7_wordsbf16 c r)).reshape _ _) (credit_acc c r) _) $$ [HA HR]
    · isplitl [HA] <;> iassumption
    iintro ⟨⟨Hat, Hacc⟩, HR⟩
    ihave Hacc := (Entails.of_eq (pay_recv1 X c (src c r))) $$ Hacc
    iapply (wp_load_acc Kt c (off8_eq c r) _ (accOf X.part c) _ _) $$ Hacc
    iintro Hacc
    iapply (wp_recv1 Kt c hO l (addTile a (slotOf (accOf X.part c) (src c r))) k) $$ [HAs HR]
    · isplitl [HAs] <;> iassumption
    iintro ⟨HBs, HR⟩
    iapply Hk
    isplitr [HR]
    · isplitl [Hat Hacc]
      · isplitl [Hat] <;> iassumption
      iexact HBs
    iexact HR

end Cert.KProof

end
-- ==== Proof.Work.lean ====
/-
What a device computes by itself: its attention heads, stored block by block, and its partial result; and what the
exchanges make of the devices' partial results.
-/
module

public import proofs.«01_k».proof.Proof.Steps

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The heads -/

/-- The head block an index of the 256×512 attention result lies in. -/
def headIx (i : S256x512.Idx) : Fin 2 × Fin 8 :=
  (⟨(i 0).val / 128, by have h : (i 0).val < 256 := (i 0).isLt; omega⟩, ⟨(i 1).val / 64, by have h : (i 1).val < 512 := (i 1).isLt; omega⟩)

/-- The attention result: head block by head block. -/
def attnOf (q : FVec F S256x512 .f32) (k v : FVec F S256x512 .bf16) : Vec F S256x512 .bf16 := fun i =>
  headBlk q k v (headIx i) (ix2 ⟨(i 0).val % 128, Nat.mod_lt _ (by decide)⟩ ⟨(i 1).val % 64, Nat.mod_lt _ (by decide)⟩)

abbrev headRect (x : Fin 2 × Fin 8) : Rect S256x512 := Rect.unit (s := S256x512) (headOff x) S128x64.size (headOff_inb x)

/-- The buffer after a head block is stored. -/
def headPut (q : FVec F S256x512 .f32) (k v : FVec F S256x512 .bf16) (f : Vec F S256x512 .bf16) (x : Fin 2 × Fin 8) : Vec F S256x512 .bf16 :=
  ((partM : Memref sig .tc .vmem S256x512 .bf16).access (headRect x)).write (Elt F) f (headBlk q k v x) Finset.univ

theorem headRect_emb (x : Fin 2 × Fin 8) (a : Fin 128) (b : Fin 64) :
    (((headRect x).emb (ix2 a b)) 0).val = 128 * x.1.val + a.val ∧ (((headRect x).emb (ix2 a b)) 1).val = 64 * x.2.val + b.val :=
  ⟨show 128 * x.1.val + 1 * a.val = _ by omega, show 64 * x.2.val + 1 * b.val = _ by omega⟩

theorem headPut_apply (q : FVec F S256x512 .f32) (k v : FVec F S256x512 .bf16) (f : Vec F S256x512 .bf16) (x : Fin 2 × Fin 8) (i : S256x512.Idx) :
    headPut q k v f x i = if headIx i = x then attnOf q k v i else f i := by
  have h0 : (i 0).val < 256 := (i 0).isLt
  have h1 : (i 1).val < 512 := (i 1).isLt
  unfold headPut
  split
  · next h =>
    have hi : i = (headRect x).emb (ix2 (⟨(i 0).val % 128, Nat.mod_lt _ (by decide)⟩ : Fin 128) (⟨(i 1).val % 64, Nat.mod_lt _ (by decide)⟩ : Fin 64)) := by
      obtain ⟨e0, e1⟩ := headRect_emb x ⟨(i 0).val % 128, Nat.mod_lt _ (by decide)⟩ ⟨(i 1).val % 64, Nat.mod_lt _ (by decide)⟩
      funext a
      match a with
      | ⟨0, _⟩ => exact Fin.ext (by rw [show (⟨0, _⟩ : Fin 2) = 0 from rfl, e0, ← h]; simp only [headIx]; omega)
      | ⟨1, _⟩ => exact Fin.ext (by rw [show (⟨1, _⟩ : Fin 2) = 1 from rfl, e1, ← h]; simp only [headIx]; omega)
    have hw := View.write_emb_of_mem (Val := Elt F) (v := ((partM : Memref sig .tc .vmem S256x512 .bf16).access (headRect x))) f (headBlk q k v x)
      (M := Finset.univ) (x := ix2 (⟨(i 0).val % 128, Nat.mod_lt _ (by decide)⟩ : Fin 128) (⟨(i 1).val % 64, Nat.mod_lt _ (by decide)⟩ : Fin 64)) (Finset.mem_univ _)
    refine (congrArg _ hi).trans (hw.trans ?_)
    unfold attnOf; rw [h]; rfl
  · next h =>
    refine View.write_of_not_mem _ _ _ fun hm => h ?_
    have hm : i ∈ (headRect x).set := by
      have e : ((partM : Memref sig .tc .vmem S256x512 .bf16).access (headRect x)).setOn Finset.univ = (headRect x).set := View.set_slice_whole _ _
      rw [← e]; exact hm
    rw [Rect.mem_set_unit] at hm
    have a0 := hm 0; have a1 := hm 1
    simp [S128x64, headOff] at a0 a1
    exact Prod.ext (Fin.ext (by simp only [headIx]; omega)) (Fin.ext (by simp only [headIx]; omega))

theorem headPut_foldl (q : FVec F S256x512 .f32) (k v : FVec F S256x512 .bf16) (i : S256x512.Idx) :
    ∀ (l : List (Fin 2 × Fin 8)) (f : Vec F S256x512 .bf16),
      (l.foldl (headPut q k v) f) i = if headIx i ∈ l then attnOf q k v i else f i
  | [], f => by rw [if_neg (List.not_mem_nil)]; rfl
  | x :: l, f => by
    rw [List.foldl_cons, headPut_foldl q k v i l, headPut_apply]
    by_cases h : headIx i ∈ l
    · rw [if_pos h, if_pos (List.mem_cons_of_mem _ h)]
    · rw [if_neg h]
      by_cases h' : headIx i = x
      · rw [if_pos h', if_pos (by rw [h']; exact List.mem_cons_self)]
      · rw [if_neg h', if_neg (fun hm => (List.mem_cons.mp hm).elim h' h)]

theorem mem_heads : ∀ x, x ∈ heads := by decide

/-- All sixteen stored: the attention result, whatever was there. -/
theorem heads_put (q : FVec F S256x512 .f32) (k v : FVec F S256x512 .bf16) (f : Vec F S256x512 .bf16) :
    heads.foldl (headPut q k v) f = attnOf q k v :=
  funext fun i => (headPut_foldl q k v i heads f).trans (if_pos (mem_heads _))

theorem wp_headLoop (Kt : PUnit.{1} → sProp 𝕄) (c : Dev nD) (q : FVec F S256x512 .f32) (kk v : FVec F S256x512 .bf16) :
    ∀ (l : List (Fin 2 × Fin 8)) (f : Vec F S256x512 .bf16) (k : KProg F),
      ((((c : Thread nD τ).loc cc0_scratch0) ↦{fullShare} f) : sProp 𝕄)
        ⊢ iprop(((((c : Thread nD τ).loc cc0_scratch0) ↦{fullShare} (l.foldl (headPut q kk v) f)) -∗ WP c k Kt)
            -∗ WP c (headLoop partM (Memref.isWhole_whole _) q kk v l k) Kt)
  | [], f, k => by
    unfold headLoop
    iintro H Hk
    iapply Hk; iexact H
  | x :: l, f, k => by
    unfold headLoop headStep
    iintro H Hk
    iapply (wp_load 𝒱₀ (c : Thread nD τ) none Set.univ (m := partM) (Finset.subset_univ _)) $$ H; iintro H
    iapply (wp_store 𝒱₀ (c : Thread nD τ) none Set.univ (m := partM) (r := headRect x) (Mk := Finset.univ) (Finset.subset_univ _)) $$ H; iintro H
    iapply (wp_headLoop Kt c q kk v l (headPut q kk v f x) k) $$ [H]
    · iexact H
    iintro H
    iapply Hk; iexact H

/-! ## The devices' inputs and what becomes of them -/

/-- What a device has staged. -/
structure Ins (F : FTy → Type) where
  x : Vec F S2x128x512 .bf16
  wq : Vec F S512x512 .bf16
  wo : Vec F S512x512 .bf16
  k : Vec F S2x128x8x64 .bf16
  v : Vec F S2x128x8x64 .bf16

/-- The partial result of a device. -/
def partOf (I : Ins F) : Vec F S256x512 .bf16 :=
  k0_pay37 (k0_pay36 I.wo (attnOf (k0_pay1 I.x I.wq) (k0_pay2 I.k) (k0_pay3 I.v)))

/-- The sum, on device `c`, of its tiles of the devices' partial results, in the order they are taken. -/
def sumOf (P : Dev nD → Vec F S256x512 .bf16) (c : Dev nD) : FVec F S16x256 .f32 :=
  steps.foldl (fun a r => addTile a (slotOf (accOf P c) (src c r))) (firstTile (slotOf (accOf P c) c))

/-- The exchanges' data. -/
def dataOf (I : Dev nD → Ins F) : Data F where
  part c := partOf (I c)
  red c := redOf (sumOf (fun d => partOf (I d)) c)

end Cert.KProof

end
-- ==== Proof.Body.lean ====
/-
One device's run of the kernel, from what the launch and the protocol give it to what it leaves: at a symbolic device,
for any float values, with the contents of every tile handed over.
-/
module

public import proofs.«01_k».proof.Proof.Work

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

/-! ## Families over the peer steps -/

omit [FloatOps F] in
theorem zip {I : Type} (S : Finset I) (A B : I → sProp 𝕄) : iprop(bigSep S A ∗ bigSep S B) ⊢ bigSep S fun i => iprop(A i ∗ B i) :=
  Entails.of_eq (bigSep_sep' S A B).symm
omit [FloatOps F] in
theorem unzip {I : Type} (S : Finset I) (A B : I → sProp 𝕄) : bigSep S (fun i => iprop(A i ∗ B i)) ⊢ iprop(bigSep S A ∗ bigSep S B) :=
  Entails.of_eq (bigSep_sep' S A B)

omit [FloatOps F] in
theorem split_steps {f : Fin 31 → Fin 32} (hf : Function.Injective f) {x : Fin 32} (hx : ∀ r, f r ≠ x) (Φ : Fin 32 → sProp 𝕄) :
    bigSep Finset.univ Φ = iprop(Φ x ∗ bigSep Finset.univ fun r => Φ (f r)) := by
  rw [bigSep_split_steps hf hx, bigSep_steps]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem wp_steps (Kt : PUnit.{1} → sProp 𝕄) (c : Dev nD) (step : Fin 31 → KProg F → KProg F) (A B : Fin 31 → sProp 𝕄) (R : List (Fin 31) → sProp 𝕄)
    (hstep : ∀ r l k, iprop(A r ∗ R (r :: l)) ⊢ iprop(((B r ∗ R l) -∗ WP c k Kt) -∗ WP c (step r k) Kt)) (k : KProg F) :
    iprop(bigSep Finset.univ A ∗ R steps) ⊢ iprop(((bigSep Finset.univ B ∗ R []) -∗ WP c k Kt) -∗ WP c (loop step steps k) Kt) := by
  rw [bigSep_steps, bigSep_steps]; exact wp_loop Kt c step A B R hstep steps k

variable (X : Data F) (K : Dev nD × Option (Fin 4 × Fin 32) → ℕ)

/-! ## The loops -/

theorem along_cons (c : Dev nD) (O : CellTallies nD τ sig Unit) (f : Fin 31 → CellTallies nD τ sig Unit) (r : Fin 31) (l : List (Fin 31)) :
    along X K c (O + owL f (r :: l)) = along X K c (O + owL f l + f r) := by
  rw [show owL f (r :: l) = owL f l + f r from rfl, add_assoc]

theorem wp_sigs (Kt : PUnit.{1} → sProp 𝕄) (c : Dev nD) (k : KProg F) :
    iprop((bigSep Finset.univ fun r : Fin 31 => iprop(dutyTok ER (barCell (peer c r)) 0 c ∗ (∃ f, accPts (F := F) c (peer c r) f) ∗ ∃ f, outPts (F := F) c (peer c r) f))
        ∗ along X K c (O₀ c))
      ⊢ iprop((along X K c (O₁ c) -∗ WP c k Kt) -∗ WP c (loop (sigStep c) steps k) Kt) := by
  have h := wp_steps Kt c (sigStep c) (fun r => iprop(dutyTok ER (barCell (peer c r)) 0 c ∗ (∃ f, accPts (F := F) c (peer c r) f) ∗ ∃ f, outPts (F := F) c (peer c r) f))
    (fun _ => iprop(emp)) (fun l => along X K c (O₁ c + owL (obar c) l))
    (fun r l k => by rw [along_cons]; exact wp_sig X K Kt c _ r k) k
  unfold O₀
  iintro H Hk
  iapply h $$ H
  iintro ⟨-, H⟩
  iapply Hk
  iapply (Entails.of_eq (congrArg (along X K c) (show O₁ c + owL (obar c) [] = O₁ c from add_zero _))); iexact H

theorem wp_sends1 (Kt : PUnit.{1} → sProp 𝕄) (c : Dev nD) (k : KProg F) :
    iprop((bigSep Finset.univ fun r : Fin 31 => iprop(dutyTok ER (dCell c 0 (stepIx r)) 0 0 ∗ dutyTok ER (dCell (peer c r) 1 c) 0 0
          ∗ partPts c (peer c r) (X.part c) ∗ ∃ f, accPts (F := F) (peer c r) c f))
        ∗ along X K c (O₁ c))
      ⊢ iprop((((bigSep Finset.univ fun r : Fin 31 => cred (tallyAt (dCell c 0 (stepIx r)) () N)) ∗ along X K c (owL (orec2 c) steps)) -∗ WP c k Kt)
          -∗ WP c (loop (send1Step partM (Memref.isWhole_whole _) accM (Memref.isWhole_whole _) cc0_scratch3 cc0_scratch4 c) steps k) Kt) := by
  have h := wp_steps Kt c (send1Step partM (Memref.isWhole_whole _) accM (Memref.isWhole_whole _) cc0_scratch3 cc0_scratch4 c)
    (fun r => iprop(dutyTok ER (dCell c 0 (stepIx r)) 0 0 ∗ dutyTok ER (dCell (peer c r) 1 c) 0 0 ∗ partPts c (peer c r) (X.part c) ∗ ∃ f, accPts (F := F) (peer c r) c f))
    (fun r => cred (tallyAt (dCell c 0 (stepIx r)) () N)) (fun l => along X K c (owL (orec2 c) steps + owL (orec1 c) l))
    (fun r l k => by rw [along_cons]; exact wp_send1 X K Kt c _ r k) k
  unfold O₁
  iintro H Hk
  iapply h $$ H
  iintro ⟨Hc, H⟩
  iapply Hk
  isplitl [Hc]; · iexact Hc
  iapply (Entails.of_eq (congrArg (along X K c) (show owL (orec2 c) steps + owL (orec1 c) [] = owL (orec2 c) steps from add_zero _))); iexact H

theorem wp_sends2 (Kt : PUnit.{1} → sProp 𝕄) (c : Dev nD) (k : KProg F) :
    iprop((bigSep Finset.univ fun r : Fin 31 => iprop(dutyTok ER (dCell c 2 (stepIx r)) 0 0 ∗ dutyTok ER (dCell (peer c r) 3 c) 0 0
          ∗ redPts c (shareTokN fullShare r.val) (X.red c) ∗ ∃ f, outPts (F := F) (peer c r) c f))
        ∗ along X K c (owL (orec2 c) steps))
      ⊢ iprop((((bigSep Finset.univ fun r : Fin 31 => cred (tallyAt (dCell c 2 (stepIx r)) () N)) ∗ along X K c 0) -∗ WP c k Kt)
          -∗ WP c (loop (send2Step outM (Memref.isWhole_whole _) redM (Memref.isWhole_whole _) cc0_scratch5 cc0_scratch6 c) steps k) Kt) := by
  have h := wp_steps Kt c (send2Step outM (Memref.isWhole_whole _) redM (Memref.isWhole_whole _) cc0_scratch5 cc0_scratch6 c)
    (fun r => iprop(dutyTok ER (dCell c 2 (stepIx r)) 0 0 ∗ dutyTok ER (dCell (peer c r) 3 c) 0 0 ∗ redPts c (shareTokN fullShare r.val) (X.red c) ∗ ∃ f, outPts (F := F) (peer c r) c f))
    (fun r => cred (tallyAt (dCell c 2 (stepIx r)) () N)) (fun l => along X K c (owL (orec2 c) l))
    (fun r l k => wp_send2 X K Kt c _ r k) k
  iintro H Hk
  iapply h $$ H
  iintro H
  iapply Hk; iexact H

theorem wp_waits1 (Kt : PUnit.{1} → sProp 𝕄) (c : Dev nD) {cut : ℕ} {O : CellTallies nD τ sig Unit} (hO : Above cut O) (k : KProg F) :
    iprop((bigSep Finset.univ fun r : Fin 31 => iprop(cred (tallyAt (dCell c 0 (stepIx r)) () N) ∗ atPos ER (dCell c 0 (stepIx r)) 0 ∅ 0)) ∗ along X K c O)
      ⊢ iprop((((bigSep Finset.univ fun r : Fin 31 => iprop(atPos ER (dCell c 0 (stepIx r)) 1 ∅ 0 ∗ partPts c (peer c r) (X.part c))) ∗ along X K c O) -∗ WP c k Kt)
          -∗ WP c (loop (wait1Step partM (Memref.isWhole_whole _) accM (Memref.isWhole_whole _) cc0_scratch3 c) steps k) Kt) :=
  wp_steps Kt c _ _ _ (fun _ => along X K c O) (fun r l k => wp_wait1 X K Kt c hO r k) k

theorem wp_waits2 (Kt : PUnit.{1} → sProp 𝕄) (c : Dev nD) (k : KProg F) :
    iprop((bigSep Finset.univ fun r : Fin 31 => iprop(cred (tallyAt (dCell c 2 (stepIx r)) () N) ∗ atPos ER (dCell c 2 (stepIx r)) 0 ∅ 0)) ∗ along X K c 0)
      ⊢ iprop((((bigSep Finset.univ fun r : Fin 31 => iprop(atPos ER (dCell c 2 (stepIx r)) 1 ∅ 0 ∗ redPts c (shareTokN fullShare r.val) (X.red c))) ∗ along X K c 0) -∗ WP c k Kt)
          -∗ WP c (loop (wait2Step outM (Memref.isWhole_whole _) redM (Memref.isWhole_whole _) cc0_scratch5 c) steps k) Kt) :=
  wp_steps Kt c _ _ _ (fun _ => along X K c 0) (fun r l k => wp_wait2 X K Kt c (above_zero 0) r k) k

theorem wp_recvs2 (Kt : PUnit.{1} → sProp 𝕄) (c : Dev nD) (k : KProg F) :
    iprop((bigSep Finset.univ fun r : Fin 31 => iprop(cred (tallyAt (dCell c 3 (src c r)) () N) ∗ atPos ER (dCell c 3 (src c r)) 0 ∅ 0)) ∗ along X K c 0)
      ⊢ iprop((((bigSep Finset.univ fun r : Fin 31 => iprop(atPos ER (dCell c 3 (src c r)) 1 ∅ 0 ∗ outPts c (src c r) (outOf X.red))) ∗ along X K c 0) -∗ WP c k Kt)
          -∗ WP c (loop (recv2Step outM (Memref.isWhole_whole _) redM (Memref.isWhole_whole _) cc0_scratch6 c) steps k) Kt) :=
  wp_steps Kt c _ _ _ (fun _ => along X K c 0) (fun r l k => wp_recv2 X K Kt c (above_zero 3) r k) k

theorem wp_recvs1 (Kt : PUnit.{1} → sProp 𝕄) (c : Dev nD) (a : FVec F S16x256 .f32) (k : FVec F S16x256 .f32 → KProg F) :
    iprop((bigSep Finset.univ fun r : Fin 31 => iprop(cred (tallyAt (dCell c 1 (src c r)) () N) ∗ atPos ER (dCell c 1 (src c r)) 0 ∅ 0)) ∗ along X K c (owL (orec2 c) steps))
      ⊢ iprop((((bigSep Finset.univ fun r : Fin 31 => iprop(atPos ER (dCell c 1 (src c r)) 1 ∅ 0 ∗ accPts c (src c r) (accOf X.part c))) ∗ along X K c (owL (orec2 c) steps))
            -∗ WP c (k (steps.foldl (fun a r => addTile a (slotOf (accOf X.part c) (src c r))) a)) Kt)
          -∗ WP c (recv1 partM (Memref.isWhole_whole _) accM (Memref.isWhole_whole _) cc0_scratch4 c steps a k) Kt) := by
  rw [bigSep_steps, bigSep_steps]; exact wp_recv1 X K Kt c (above_rec2 c steps) steps a k

/-! ## Single accesses -/

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

/-- The load of a tile of the partial result. -/
theorem wp_load_part (Kt : PUnit.{1} → sProp 𝕄) (c : Dev nD) {o : Fin 2 → ℕ} {s : Dev nD} (h : o = partOff s)
    (p : ∀ a, o a + S16x256.size a ≤ S256x512.size a) (f : Vec F S256x512 .bf16)
    (hl : (partM : Memref sig .tc .vmem S256x512 .bf16).view.LoadsAt (Rect.unit (s := S256x512) o S16x256.size p).toLoadRect)
    (k : Vec F S16x256 .bf16 → KProg F) :
    partPts c s f ⊢ iprop((partPts c s f -∗ WP c (k (tileOf f s)) Kt)
      -∗ WP c (.op (.load partM (Rect.unit (s := S256x512) o S16x256.size p).toLoadRect hl) k) Kt) := by
  subst h
  exact wp_load_rect 𝒱₀ (c : Thread nD τ) none Set.univ (m := partM) (r := partRect s) (hl := hl) (k := k)
    (S := (partRect s).set) (q := fullShare) (f := f) (View.set_slice_whole _ _).subset

/-- The store of an accumulator slot. -/
theorem wp_store_acc (Kt : PUnit.{1} → sProp 𝕄) (c : Dev nD) {o : Fin 3 → ℕ} (h : o = accOff c)
    (p : ∀ a, o a + S1x16x256.size a ≤ S32x16x256.size a) (P : Dev nD → Vec F S256x512 .bf16) (f : Vec F S32x16x256 .bf16)
    (hx : ((accM : Memref sig .tc .vmem S32x16x256 .bf16).access (Rect.unit (s := S32x16x256) o S1x16x256.size p)).Stores Finset.univ)
    (hm : (Finset.univ : Finset S1x16x256.Idx) = Finset.univ ∨ ∀ a, (Rect.unit (s := S32x16x256) o S1x16x256.size p).stride a = 1)
    (k : PUnit → KProg F) :
    accPts c c f ⊢ iprop((accPts c c (accOf P c) -∗ WP c (k ⟨⟩) Kt)
      -∗ WP c (.op (.store accM (Rect.unit (s := S32x16x256) o S1x16x256.size p) (k0_pay38 (tileOf (P c) c)) Finset.univ hx hm) k) Kt) := by
  subst h
  have e : ((accM : Memref sig .tc .vmem S32x16x256 .bf16).access (accRect c)).setOn Finset.univ = (accRect c).set := View.set_slice_whole _ _
  have hval : ∀ i ∈ (accRect c).set, ((accM : Memref sig .tc .vmem S32x16x256 .bf16).access (accRect c)).write (Elt F) f (k0_pay38 (tileOf (P c) c)) Finset.univ i = accOf P c i := by
    intro i hi
    rw [← e] at hi
    obtain ⟨x, -, rfl⟩ := Finset.mem_map.mp hi
    obtain ⟨z, x, y, rfl⟩ : ∃ (z : Fin 1) (a : Fin 16) (b : Fin 256), x = ix3 z a b := ⟨x 0, x 1, x 2, eq_ix3 x⟩
    obtain rfl : z = ⟨0, Nat.one_pos⟩ := Subsingleton.elim _ _
    refine (View.write_emb_of_mem (v := ((accM : Memref sig .tc .vmem S32x16x256 .bf16).access (accRect c))) f (k0_pay38 (tileOf (P c) c)) (Finset.mem_univ _)).trans ?_
    exact (shapeCast_ab_1ab_apply _ _ _ _ _).trans (congrArg (accOf P c) (accRect_emb c x y)).symm
  have hp : (accPts c c (((accM : Memref sig .tc .vmem S32x16x256 .bf16).access (accRect c)).write (Elt F) f (k0_pay38 (tileOf (P c) c)) Finset.univ) : sProp 𝕄)
      = accPts c c (accOf P c) := by
    unfold accPts; exact pointsTo_congr hval
  rw [← hp]
  exact wp_store 𝒱₀ (c : Thread nD τ) none Set.univ (m := accM) (r := accRect c) (Mk := Finset.univ) (S := (accRect c).set) (f := f) (hx := hx) (hm := hm) (k := k) e.subset

/-- The store of the device's own tile of the result. -/
theorem wp_store_out (Kt : PUnit.{1} → sProp 𝕄) (c : Dev nD) {o : Fin 3 → ℕ} (h : o = outOff c)
    (p : ∀ a, o a + S1x16x256.size a ≤ S2x128x512.size a) (Q : Dev nD → Vec F S16x256 .bf16) (f : Vec F S2x128x512 .bf16)
    (hx : ((outM : Memref sig .tc .vmem S2x128x512 .bf16).access (Rect.unit (s := S2x128x512) o S1x16x256.size p)).Stores Finset.univ)
    (hm : (Finset.univ : Finset S1x16x256.Idx) = Finset.univ ∨ ∀ a, (Rect.unit (s := S2x128x512) o S1x16x256.size p).stride a = 1)
    (k : PUnit → KProg F) :
    outPts c c f ⊢ iprop((outPts c c (outOf Q) -∗ WP c (k ⟨⟩) Kt)
      -∗ WP c (.op (.store outM (Rect.unit (s := S2x128x512) o S1x16x256.size p) (k0_pay54 (Q c)) Finset.univ hx hm) k) Kt) := by
  subst h
  have e : ((outM : Memref sig .tc .vmem S2x128x512 .bf16).access (outRect c)).setOn Finset.univ = (outRect c).set := View.set_slice_whole _ _
  have hval : ∀ i ∈ (outRect c).set, ((outM : Memref sig .tc .vmem S2x128x512 .bf16).access (outRect c)).write (Elt F) f (k0_pay54 (Q c)) Finset.univ i = outOf Q i := by
    intro i hi
    rw [← e] at hi
    obtain ⟨x, -, rfl⟩ := Finset.mem_map.mp hi
    obtain ⟨z, x, y, rfl⟩ : ∃ (z : Fin 1) (a : Fin 16) (b : Fin 256), x = ix3 z a b := ⟨x 0, x 1, x 2, eq_ix3 x⟩
    obtain rfl : z = ⟨0, Nat.one_pos⟩ := Subsingleton.elim _ _
    refine (View.write_emb_of_mem (v := ((outM : Memref sig .tc .vmem S2x128x512 .bf16).access (outRect c))) f (k0_pay54 (Q c)) (Finset.mem_univ _)).trans ?_
    exact (shapeCast_ab_1ab_apply _ _ _ _ _).trans (outOf_emb Q c x y).symm
  have hp : (outPts c c (((outM : Memref sig .tc .vmem S2x128x512 .bf16).access (outRect c)).write (Elt F) f (k0_pay54 (Q c)) Finset.univ) : sProp 𝕄)
      = outPts c c (outOf Q) := by
    unfold outPts; exact pointsTo_congr hval
  rw [← hp]
  exact wp_store 𝒱₀ (c : Thread nD τ) none Set.univ (m := outM) (r := outRect c) (Mk := Finset.univ) (S := (outRect c).set) (f := f) (hx := hx) (hm := hm) (k := k) e.subset

theorem wp_load_out (Kt : PUnit.{1} → sProp 𝕄) (c : Dev nD) {o : Fin 3 → ℕ} (h : o = outOff c)
    (p : ∀ a, o a + S1x16x256.size a ≤ S2x128x512.size a) (f : Vec F S2x128x512 .bf16)
    (hl : (outM : Memref sig .tc .vmem S2x128x512 .bf16).view.LoadsAt (Rect.unit (s := S2x128x512) o S1x16x256.size p).toLoadRect)
    (k : Vec F S1x16x256 .bf16 → KProg F) (k' : KProg F) (hk : ∀ t, k t = k') :
    outPts c c f ⊢ iprop((outPts c c f -∗ WP c k' Kt)
      -∗ WP c (.op (.load outM (Rect.unit (s := S2x128x512) o S1x16x256.size p).toLoadRect hl) k) Kt) := by
  subst h
  rw [← hk (((outM : Memref sig .tc .vmem S2x128x512 .bf16).access (outRect c)).read (Elt F) f)]
  exact wp_load_rect 𝒱₀ (c : Thread nD τ) none Set.univ (m := outM) (r := outRect c) (hl := hl) (k := k)
    (S := (outRect c).set) (q := fullShare) (f := f) (View.set_slice_whole _ _).subset

end Cert.KProof

end
-- ==== Proof.Run.lean ====
/-
The body's run in three stretches, each from its end: after the sums, the first exchange, the attention and the barrier.
-/
module

public import proofs.«01_k».proof.Proof.Body
public import Idealize.ShloMosaic.Lib.Ring

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (X : Data F) (K : Dev nD × Option (Fin 4 × Fin 32) → ℕ)

/-! ## What the stretches take and leave -/

/-- For the second exchange: the reduced tile's buffer, the peers' result tiles and one's own, the copies' tokens, the
    positions on the sends, the credit and the positions for the receives. -/
def secondPre (c : Dev nD) : sProp 𝕄 :=
  iprop((∃ f, redPts (F := F) c fullShare f)
    ∗ (bigSep Finset.univ fun r : Fin 31 => iprop(∃ f, outPts (F := F) (peer c r) c f)) ∗ (∃ f, outPts (F := F) c c f)
    ∗ (bigSep Finset.univ fun r : Fin 31 => dutyTok ER (dCell c 2 (stepIx r)) 0 0) ∗ (bigSep Finset.univ fun r : Fin 31 => dutyTok ER (dCell (peer c r) 3 c) 0 0)
    ∗ (bigSep Finset.univ fun r : Fin 31 => atPos ER (dCell c 2 (stepIx r)) 0 ∅ 0)
    ∗ (bigSep Finset.univ fun r : Fin 31 => cred (tallyAt (dCell c 3 (src c r)) () N)) ∗ (bigSep Finset.univ fun r : Fin 31 => atPos ER (dCell c 3 (src c r)) 0 ∅ 0))

/-- For the first: the peers' accumulator slots and one's own, the copies' tokens, the positions on the sends, the credit
    and the positions for the receives. -/
def firstPre (c : Dev nD) : sProp 𝕄 :=
  iprop((bigSep Finset.univ fun r : Fin 31 => iprop(∃ f, accPts (F := F) (peer c r) c f)) ∗ (∃ f, accPts (F := F) c c f)
    ∗ (bigSep Finset.univ fun r : Fin 31 => dutyTok ER (dCell c 0 (stepIx r)) 0 0) ∗ (bigSep Finset.univ fun r : Fin 31 => dutyTok ER (dCell (peer c r) 1 c) 0 0)
    ∗ (bigSep Finset.univ fun r : Fin 31 => atPos ER (dCell c 0 (stepIx r)) 0 ∅ 0)
    ∗ (bigSep Finset.univ fun r : Fin 31 => cred (tallyAt (dCell c 1 (src c r)) () N)) ∗ (bigSep Finset.univ fun r : Fin 31 => atPos ER (dCell c 1 (src c r)) 0 ∅ 0))

/-- After the body: the positions past the one round, the result filled, the scratch buffers whole. -/
def runPost (c : Dev nD) : sProp 𝕄 :=
  iprop(along X K c 0
    ∗ ((bigSep Finset.univ fun r : Fin 31 => atPos ER (dCell c 0 (stepIx r)) 1 ∅ 0) ∗ (bigSep Finset.univ fun r : Fin 31 => atPos ER (dCell c 1 (src c r)) 1 ∅ 0)
      ∗ (bigSep Finset.univ fun r : Fin 31 => atPos ER (dCell c 2 (stepIx r)) 1 ∅ 0) ∗ (bigSep Finset.univ fun r : Fin 31 => atPos ER (dCell c 3 (src c r)) 1 ∅ 0))
    ∗ (((c : Thread nD τ).loc cc0_stg5_0) ↦{fullShare} (outOf X.red : Vec F S2x128x512 .bf16))
    ∗ (∃ f : Vec F S256x512 .bf16, ((c : Thread nD τ).loc cc0_scratch0) ↦{fullShare} f)
    ∗ (∃ f : Vec F S32x16x256 .bf16, ((c : Thread nD τ).loc cc0_scratch1) ↦{fullShare} f)
    ∗ (∃ f : Vec F S16x256 .bf16, ((c : Thread nD τ).loc cc0_scratch2) ↦{fullShare} f))

/-! ## Buffers by tiles -/

theorem part_mem (i : S256x512.Idx) : ∃ j : Dev nD, i ∈ (partRect j).set := by
  have h := Finset.mem_univ i
  rw [← partRect_cover] at h
  obtain ⟨j, -, hj⟩ := Finset.mem_biUnion.mp h
  exact ⟨j, hj⟩
theorem acc_mem (i : S32x16x256.Idx) : ∃ j : Dev nD, i ∈ (accRect j).set := by
  have h := Finset.mem_univ i
  rw [← accRect_cover] at h
  obtain ⟨j, -, hj⟩ := Finset.mem_biUnion.mp h
  exact ⟨j, hj⟩
theorem out_mem (i : S2x128x512.Idx) : ∃ j : Dev nD, i ∈ (outRect j).set := by
  have h := Finset.mem_univ i
  rw [← outRect_cover] at h
  obtain ⟨j, -, hj⟩ := Finset.mem_biUnion.mp h
  exact ⟨j, hj⟩

omit [FloatOps F] in
/-- A buffer held whole is held block by block. -/
theorem whole_tiles (ℓ : Loc nD τ sig) (I : Dev nD → Finset (Idx ℓ)) (hd : ∀ j j', j ≠ j' → Disjoint (I j) (I j')) (hm : ∀ i, ∃ j, i ∈ I j)
    (f : Buf (Elt F) ℓ) : ((ℓ ↦{fullShare} f) : sProp 𝕄) = bigSep Finset.univ fun j => ℓ ↦[I j]{fullShare} f :=
  Ring.pointsTo_blocks I hd (Finset.eq_univ_of_forall fun i => by
    obtain ⟨j, hj⟩ := hm i
    exact Finset.mem_biUnion.mpr ⟨j, Finset.mem_univ _, hj⟩) f

theorem part_tiles (c : Dev nD) (f : Vec F S256x512 .bf16) :
    ((((c : Thread nD τ).loc cc0_scratch0) ↦{fullShare} f) : sProp 𝕄)
      = iprop(partPts c c f ∗ bigSep Finset.univ fun r : Fin 31 => partPts c (peer c r) f) :=
  (whole_tiles ((c : Thread nD τ).loc cc0_scratch0) (fun j : Dev nD => (partRect j).set) partRect_disjoint part_mem f).trans
    (split_steps (peer_injective c) (peer_ne c) fun j => partPts c j f)

theorem acc_tiles (c : Dev nD) (f : Vec F S32x16x256 .bf16) :
    ((((c : Thread nD τ).loc cc0_scratch1) ↦{fullShare} f) : sProp 𝕄) = bigSep Finset.univ fun j : Dev nD => accPts c j f :=
  whole_tiles ((c : Thread nD τ).loc cc0_scratch1) (fun j : Dev nD => (accRect j).set) accRect_disjoint acc_mem f
theorem out_tiles (c : Dev nD) (f : Vec F S2x128x512 .bf16) :
    ((((c : Thread nD τ).loc cc0_stg5_0) ↦{fullShare} f) : sProp 𝕄) = bigSep Finset.univ fun j : Dev nD => outPts c j f :=
  whole_tiles ((c : Thread nD τ).loc cc0_stg5_0) (fun j : Dev nD => (outRect j).set) outRect_disjoint out_mem f

theorem acc_tiles_peers (c : Dev nD) (f : Vec F S32x16x256 .bf16) :
    ((((c : Thread nD τ).loc cc0_scratch1) ↦{fullShare} f) : sProp 𝕄)
      = iprop(accPts c c f ∗ bigSep Finset.univ fun r : Fin 31 => accPts c (peer c r) f) :=
  (acc_tiles c f).trans (split_steps (peer_injective c) (peer_ne c) fun j => accPts c j f)
theorem acc_tiles_srcs (c : Dev nD) (f : Vec F S32x16x256 .bf16) :
    ((((c : Thread nD τ).loc cc0_scratch1) ↦{fullShare} f) : sProp 𝕄)
      = iprop(accPts c c f ∗ bigSep Finset.univ fun r : Fin 31 => accPts c (src c r) f) :=
  (acc_tiles c f).trans (split_steps (src_injective c) (src_ne c) fun j => accPts c j f)
theorem out_tiles_peers (c : Dev nD) (f : Vec F S2x128x512 .bf16) :
    ((((c : Thread nD τ).loc cc0_stg5_0) ↦{fullShare} f) : sProp 𝕄)
      = iprop(outPts c c f ∗ bigSep Finset.univ fun r : Fin 31 => outPts c (peer c r) f) :=
  (out_tiles c f).trans (split_steps (peer_injective c) (peer_ne c) fun j => outPts c j f)
theorem out_tiles_srcs (c : Dev nD) (f : Vec F S2x128x512 .bf16) :
    ((((c : Thread nD τ).loc cc0_stg5_0) ↦{fullShare} f) : sProp 𝕄)
      = iprop(outPts c c f ∗ bigSep Finset.univ fun r : Fin 31 => outPts c (src c r) f) :=
  (out_tiles c f).trans (split_steps (src_injective c) (src_ne c) fun j => outPts c j f)

/-- The reduced tile's shares: one for each peer step, and what remains. -/
theorem red_shares (c : Dev nD) (f : Vec F S16x256 .bf16) :
    (redPts c fullShare f : sProp 𝕄)
      = iprop(redPts c (shareDrop fullShare 31) f ∗ bigSep Finset.univ fun r : Fin 31 => redPts c (shareTokN fullShare r.val) f) :=
  Entails.antisymm (Transfers.pointsTo_toks_split fullShare 31) (Transfers.pointsTo_toks_join fullShare 31)

theorem red_whole (c : Dev nD) (f : Vec F S16x256 .bf16) :
    (redPts c fullShare f : sProp 𝕄) = (((c : Thread nD τ).loc cc0_scratch2) ↦{fullShare} f) := rfl

/-- A program that has returned. -/
theorem wp_done (Kt : PUnit.{1} → sProp 𝕄) (c : Dev nD) : Kt ⟨⟩ ⊢ WP c (.ret ⟨⟩) Kt := by
  unfold WP
  rw [wp_ret]
  iintro H
  imodintro
  iexact H

/-! ## After the sums -/

theorem wp_load_red (Kt : PUnit.{1} → sProp 𝕄) (c : Dev nD) (q : PosShare TreeShare) (f : Vec F S16x256 .bf16)
    {hl : (redM : Memref sig .tc .vmem S16x256 .bf16).view.LoadsAt (Rect.unit (s := S16x256) ![0, 0] S16x256.size inb_S16x256_S16x256_0_0).toLoadRect}
    (k : Vec F S16x256 .bf16 → KProg F) :
    redPts c q f ⊢ iprop((redPts c q f -∗ WP c (k f) Kt)
      -∗ WP c (.op (.load redM (Rect.unit (s := S16x256) ![0, 0] S16x256.size inb_S16x256_S16x256_0_0).toLoadRect hl) k) Kt) := by
  have e : (redM : Memref sig .tc .vmem S16x256 .bf16).view.readAt (Elt F) (Rect.unit (s := S16x256) ![0, 0] S16x256.size inb_S16x256_S16x256_0_0).toLoadRect f = f :=
    Memref.readAt_unit_zero (Elt F) cc0_scratch2 zero2 _ f
  have h : redPts c q f ⊢ iprop((redPts c q f -∗ WP c (k ((redM : Memref sig .tc .vmem S16x256 .bf16).view.readAt (Elt F) (Rect.unit (s := S16x256) ![0, 0] S16x256.size inb_S16x256_S16x256_0_0).toLoadRect f)) Kt)
      -∗ WP c (.op (.load redM (Rect.unit (s := S16x256) ![0, 0] S16x256.size inb_S16x256_S16x256_0_0).toLoadRect hl) k) Kt) := wp_load 𝒱₀ (c : Thread nD τ) none Set.univ (m := redM) (defs := defs₀ (F := F)) (Q := Kt)
    (r := (Rect.unit (s := S16x256) ![0, 0] S16x256.size inb_S16x256_S16x256_0_0).toLoadRect) (hl := hl) (k := k)
    (S := Finset.univ) (q := q) (f := f) (Finset.subset_univ _)
  rw [e] at h
  exact h

theorem wp_store_red (Kt : PUnit.{1} → sProp 𝕄) (c : Dev nD) (f w : Vec F S16x256 .bf16)
    {hx : ((redM : Memref sig .tc .vmem S16x256 .bf16).access (Rect.unit (s := S16x256) ![0, 0] S16x256.size inb_S16x256_S16x256_0_0)).Stores Finset.univ}
    {hm : (Finset.univ : Finset S16x256.Idx) = Finset.univ ∨ ∀ a, (Rect.unit (s := S16x256) ![0, 0] S16x256.size inb_S16x256_S16x256_0_0).stride a = 1}
    (k : PUnit → KProg F) :
    redPts c fullShare f ⊢ iprop((redPts c fullShare w -∗ WP c (k ⟨⟩) Kt)
      -∗ WP c (.op (.store redM (Rect.unit (s := S16x256) ![0, 0] S16x256.size inb_S16x256_S16x256_0_0) w Finset.univ hx hm) k) Kt) := by
  have e : ((redM : Memref sig .tc .vmem S16x256 .bf16).access (Rect.unit (s := S16x256) ![0, 0] S16x256.size inb_S16x256_S16x256_0_0)).write (Elt F) f w Finset.univ = w :=
    Memref.write_access_unit_zero_univ (Elt F) cc0_scratch2 zero2 _ f w
  have h : redPts c fullShare f ⊢ iprop((redPts c fullShare (((redM : Memref sig .tc .vmem S16x256 .bf16).access (Rect.unit (s := S16x256) ![0, 0] S16x256.size inb_S16x256_S16x256_0_0)).write (Elt F) f w Finset.univ)
        -∗ WP c (k ⟨⟩) Kt)
      -∗ WP c (.op (.store redM (Rect.unit (s := S16x256) ![0, 0] S16x256.size inb_S16x256_S16x256_0_0) w Finset.univ hx hm) k) Kt) := wp_store 𝒱₀ (c : Thread nD τ) none Set.univ (m := redM) (defs := defs₀ (F := F)) (Q := Kt)
    (r := (Rect.unit (s := S16x256) ![0, 0] S16x256.size inb_S16x256_S16x256_0_0)) (Mk := Finset.univ) (hx := hx) (hm := hm) (k := k) (w := w)
    (S := Finset.univ) (f := f) (Finset.subset_univ _)
  rw [e] at h
  exact h

set_option maxHeartbeats 1000000 in
theorem wp_tail (Kt : PUnit.{1} → sProp 𝕄) (c : Dev nD) (a : FVec F S16x256 .f32) (ha : redOf a = X.red c) :
    iprop(along X K c (owL (orec2 c) steps)
        ∗ (bigSep Finset.univ fun r : Fin 31 => cred (tallyAt (dCell c 0 (stepIx r)) () N)) ∗ (bigSep Finset.univ fun r : Fin 31 => atPos ER (dCell c 0 (stepIx r)) 0 ∅ 0)
        ∗ partPts c c (X.part c) ∗ (bigSep Finset.univ fun r : Fin 31 => atPos ER (dCell c 1 (src c r)) 1 ∅ 0)
        ∗ (((c : Thread nD τ).loc cc0_scratch1) ↦{fullShare} (accOf X.part c : Vec F S32x16x256 .bf16))
        ∗ secondPre c)
      ⊢ iprop((runPost X K c -∗ Kt ⟨⟩)
          -∗ WP c (tailProg outM (Memref.isWhole_whole _) partM (Memref.isWhole_whole _) accM (Memref.isWhole_whole _) redM (Memref.isWhole_whole _)
              cc0_scratch3 cc0_scratch5 cc0_scratch6 c a) Kt) := by
  unfold tailProg secondPre
  rw [ha]
  iintro ⟨HR, HcA, HaA, Hpart, HaB, Hacc, ⟨%f0, Hred⟩, Houts, ⟨%f1, Hout⟩, Ht, Ht', HaC, HcD, HaD⟩ Hk
  iapply (wp_load_red Kt c fullShare f0) $$ Hred
  iintro Hred
  iapply (wp_store_red Kt c f0 (X.red c)) $$ Hred
  iintro Hred
  ihave HA := (zip (F := F) _ _ _) $$ [HcA HaA]
  · isplitl [HcA] <;> iassumption
  iapply (wp_waits1 X K Kt c (above_rec2 c steps)) $$ [HA HR]
  · isplitl [HA] <;> iassumption
  iintro ⟨HA, HR⟩
  ihave HA := (unzip (F := F) _ _ _) $$ HA
  icases HA with ⟨HaA, Hparts⟩
  ihave Hred := (Entails.of_eq (red_shares c (X.red c))) $$ Hred
  icases Hred with ⟨Hdrop, Hshares⟩
  ihave H1 := (zip (F := F) _ _ _) $$ [Hshares Houts]
  · isplitl [Hshares] <;> iassumption
  ihave H2 := (zip (F := F) _ _ _) $$ [Ht' H1]
  · isplitl [Ht'] <;> iassumption
  ihave H3 := (zip (F := F) _ _ _) $$ [Ht H2]
  · isplitl [Ht] <;> iassumption
  iapply (wp_sends2 X K Kt c) $$ [H3 HR]
  · isplitl [H3] <;> iassumption
  iintro ⟨HcC, HR⟩
  iapply (wp_load_red Kt c _ (X.red c)) $$ Hdrop
  iintro Hdrop
  iapply (wp_load_out Kt c (k0_off10_eq c) _ f1 _ _ _ (fun _ => rfl)) $$ Hout
  iintro Hout
  iapply (wp_store_out Kt c (k0_off10_eq c) _ X.red f1) $$ Hout
  iintro Hout
  ihave HD := (zip (F := F) _ _ _) $$ [HcD HaD]
  · isplitl [HcD] <;> iassumption
  iapply (wp_recvs2 X K Kt c) $$ [HD HR]
  · isplitl [HD] <;> iassumption
  iintro ⟨HD, HR⟩
  ihave HD := (unzip (F := F) _ _ _) $$ HD
  icases HD with ⟨HaD, HoutD⟩
  ihave HC := (zip (F := F) _ _ _) $$ [HcC HaC]
  · isplitl [HcC] <;> iassumption
  iapply (wp_waits2 X K Kt c) $$ [HC HR]
  · isplitl [HC] <;> iassumption
  iintro ⟨HC, HR⟩
  ihave HC := (unzip (F := F) _ _ _) $$ HC
  icases HC with ⟨HaC, Hshares⟩
  iapply (wp_done Kt c)
  iapply Hk
  unfold runPost
  isplitl [HR]; · iexact HR
  isplitl [HaA HaB HaC HaD]
  · isplitl [HaA]; · iexact HaA
    isplitl [HaB]; · iexact HaB
    isplitl [HaC] <;> iassumption
  isplitl [Hout HoutD]
  · iapply (Entails.of_eq (out_tiles_srcs c (outOf X.red)).symm)
    isplitl [Hout] <;> iassumption
  isplitl [Hpart Hparts]
  · iexists (X.part c)
    iapply (Entails.of_eq (part_tiles c (X.part c)).symm)
    isplitl [Hpart] <;> iassumption
  isplitl [Hacc]; · iexists (accOf X.part c); iexact Hacc
  iexists (X.red c)
  ihave H := (Entails.of_eq (red_shares c (X.red c)).symm) $$ [Hdrop Hshares]
  · isplitl [Hdrop] <;> iassumption
  iapply (Entails.of_eq (red_whole c (X.red c))); iexact H

/-! ## The first exchange -/

set_option maxHeartbeats 1000000 in
theorem wp_exch (Kt : PUnit.{1} → sProp 𝕄) (c : Dev nD)
    (ha : redOf (sumOf X.part c) = X.red c) :
    iprop(along X K c (O₁ c) ∗ (((c : Thread nD τ).loc cc0_scratch0) ↦{fullShare} (X.part c : Vec F S256x512 .bf16)) ∗ firstPre c ∗ secondPre c)
      ⊢ iprop((runPost X K c -∗ Kt ⟨⟩)
          -∗ WP c (exchProg outM (Memref.isWhole_whole _) partM (Memref.isWhole_whole _) accM (Memref.isWhole_whole _) redM (Memref.isWhole_whole _)
              cc0_scratch3 cc0_scratch4 cc0_scratch5 cc0_scratch6 c) Kt) := by
  unfold exchProg firstPre
  iintro ⟨HR, Hpart, ⟨Haccs, ⟨%f0, Hacc⟩, Ht, Ht', HaA, HcB, HaB⟩, Hsec⟩ Hk
  ihave Hpart := (Entails.of_eq (part_tiles c (X.part c))) $$ Hpart
  icases Hpart with ⟨Hpart, Hparts⟩
  ihave H1 := (zip (F := F) _ _ _) $$ [Hparts Haccs]
  · isplitl [Hparts] <;> iassumption
  ihave H2 := (zip (F := F) _ _ _) $$ [Ht' H1]
  · isplitl [Ht'] <;> iassumption
  ihave H3 := (zip (F := F) _ _ _) $$ [Ht H2]
  · isplitl [Ht] <;> iassumption
  iapply (wp_sends1 X K Kt c) $$ [H3 HR]
  · isplitl [H3] <;> iassumption
  iintro ⟨HcA, HR⟩
  iapply (wp_load_part Kt c (k0_off4_eq c) _ (X.part c)) $$ Hpart
  iintro Hpart
  iapply (wp_load_acc Kt c (k0_off5_eq c) _ f0) $$ Hacc
  iintro Hacc
  iapply (wp_store_acc Kt c (k0_off5_eq c) _ X.part f0) $$ Hacc
  iintro Hacc
  iapply (wp_load_acc Kt c (k0_off5_eq c) _ (accOf X.part c)) $$ Hacc
  iintro Hacc
  ihave HB := (zip (F := F) _ _ _) $$ [HcB HaB]
  · isplitl [HcB] <;> iassumption
  iapply (wp_recvs1 X K Kt c) $$ [HB HR]
  · isplitl [HB] <;> iassumption
  iintro ⟨HB, HR⟩
  ihave HB := (unzip (F := F) _ _ _) $$ HB
  icases HB with ⟨HaB, HaccB⟩
  iapply (wp_tail X K Kt c _ ha) $$ [HR HcA HaA Hpart HaB Hacc HaccB Hsec]
  · isplitl [HR]; · iexact HR
    isplitl [HcA]; · iexact HcA
    isplitl [HaA]; · iexact HaA
    isplitl [Hpart]; · iexact Hpart
    isplitl [HaB]; · iexact HaB
    isplitl [Hacc HaccB]
    · iapply (Entails.of_eq (acc_tiles_srcs c (accOf X.part c)).symm)
      isplitl [Hacc] <;> iassumption
    iexact Hsec
  iexact Hk

end Cert.KProof

end
-- ==== Proof.Device.lean ====
/-
One device's whole run: the handshake on the barrier, the attention, the two exchanges, and every semaphore closed at
the end.
-/
module

public import proofs.«01_k».proof.Proof.Run

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Data F) (K : Dev nD × Option (Fin 4 × Fin 32) → ℕ)

/-! ## The attention -/

/-- What the device has staged, held. -/
def inPts (c : Dev nD) (I : Ins F) : sProp 𝕄 :=
  iprop((((c : Thread nD τ).loc cc0_stg0_0) ↦{fullShare} I.x) ∗ (((c : Thread nD τ).loc cc0_stg1_0) ↦{fullShare} I.wq)
    ∗ (((c : Thread nD τ).loc cc0_stg2_0) ↦{fullShare} I.wo) ∗ (((c : Thread nD τ).loc cc0_stg3_0) ↦{fullShare} I.k)
    ∗ (((c : Thread nD τ).loc cc0_stg4_0) ↦{fullShare} I.v))

omit [FloatOps F] in
theorem read_x (f : Vec F S2x128x512 .bf16) :
    (xM : Memref sig .tc .vmem S2x128x512 .bf16).view.readAt (Elt F) (Rect.unit (s := S2x128x512) ![0, 0, 0] S2x128x512.size inb_S2x128x512_S2x128x512_0_0_0).toLoadRect f = f :=
  Memref.readAt_unit_zero (Elt F) cc0_stg0_0 zero3 _ f
omit [FloatOps F] in
theorem read_wq (f : Vec F S512x512 .bf16) :
    (wqM : Memref sig .tc .vmem S512x512 .bf16).view.readAt (Elt F) (Rect.unit (s := S512x512) ![0, 0] S512x512.size inb_S512x512_S512x512_0_0).toLoadRect f = f :=
  Memref.readAt_unit_zero (Elt F) cc0_stg1_0 zero2 _ f
omit [FloatOps F] in
theorem read_wo (f : Vec F S512x512 .bf16) :
    (woM : Memref sig .tc .vmem S512x512 .bf16).view.readAt (Elt F) (Rect.unit (s := S512x512) ![0, 0] S512x512.size inb_S512x512_S512x512_0_0).toLoadRect f = f :=
  Memref.readAt_unit_zero (Elt F) cc0_stg2_0 zero2 _ f
omit [FloatOps F] in
theorem read_k (f : Vec F S2x128x8x64 .bf16) :
    (kM : Memref sig .tc .vmem S2x128x8x64 .bf16).view.readAt (Elt F) (Rect.unit (s := S2x128x8x64) ![0, 0, 0, 0] S2x128x8x64.size inb_S2x128x8x64_S2x128x8x64_0_0_0_0).toLoadRect f = f :=
  Memref.readAt_unit_zero (Elt F) cc0_stg3_0 zero4 _ f
omit [FloatOps F] in
theorem read_v (f : Vec F S2x128x8x64 .bf16) :
    (vM : Memref sig .tc .vmem S2x128x8x64 .bf16).view.readAt (Elt F) (Rect.unit (s := S2x128x8x64) ![0, 0, 0, 0] S2x128x8x64.size inb_S2x128x8x64_S2x128x8x64_0_0_0_0).toLoadRect f = f :=
  Memref.readAt_unit_zero (Elt F) cc0_stg4_0 zero4 _ f
omit [FloatOps F] in
theorem read_part (f : Vec F S256x512 .bf16) :
    (partM : Memref sig .tc .vmem S256x512 .bf16).view.readAt (Elt F) (Rect.unit (s := S256x512) ![0, 0] S256x512.size inb_S256x512_S256x512_0_0).toLoadRect f = f :=
  Memref.readAt_unit_zero (Elt F) cc0_scratch0 zero2 _ f
omit [FloatOps F] in
theorem write_part (f w : Vec F S256x512 .bf16) :
    ((partM : Memref sig .tc .vmem S256x512 .bf16).access (Rect.unit (s := S256x512) ![0, 0] S256x512.size inb_S256x512_S256x512_0_0)).write (Elt F) f w Finset.univ = w :=
  Memref.write_access_unit_zero_univ (Elt F) cc0_scratch0 zero2 _ f w

set_option maxHeartbeats 1000000 in
theorem wp_work (Kt : PUnit.{1} → sProp 𝕄) (c : Dev nD) (I : Ins F) (hp : partOf I = X.part c) (ha : redOf (sumOf X.part c) = X.red c) :
    iprop(along X K c (O₁ c) ∗ inPts c I ∗ (∃ f : Vec F S256x512 .bf16, ((c : Thread nD τ).loc cc0_scratch0) ↦{fullShare} f) ∗ firstPre c ∗ secondPre c)
      ⊢ iprop(((inPts c I ∗ runPost X K c) -∗ Kt ⟨⟩)
          -∗ WP c (workProg xM wqM woM kM vM outM (Memref.isWhole_whole _) partM (Memref.isWhole_whole _) accM (Memref.isWhole_whole _)
              redM (Memref.isWhole_whole _) cc0_scratch3 cc0_scratch4 cc0_scratch5 cc0_scratch6 c) Kt) := by
  unfold workProg inPts
  iintro ⟨HR, ⟨Hx, Hwq, Hwo, Hkk, Hv⟩, ⟨%f0, Hpart⟩, Hfirst, Hsec⟩ Hk
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  rw [read_x, read_wq, read_k, read_v]
  iapply (wp_headLoop Kt c _ _ _ heads f0) $$ Hpart
  iintro Hpart
  iapply (wp_load 𝒱₀ (c : Thread nD τ) none Set.univ (m := woM) (Finset.subset_univ _)) $$ Hwo; iintro Hwo
  iapply (wp_load 𝒱₀ (c : Thread nD τ) none Set.univ (m := partM) (Finset.subset_univ _)) $$ Hpart; iintro Hpart
  iapply (wp_load 𝒱₀ (c : Thread nD τ) none Set.univ (m := partM) (Finset.subset_univ _)) $$ Hpart; iintro Hpart
  rw [read_wo, read_part, heads_put]
  iapply (wp_store 𝒱₀ (c : Thread nD τ) none Set.univ (m := partM) (r := Rect.unit (s := S256x512) ![0, 0] S256x512.size inb_S256x512_S256x512_0_0) (Mk := Finset.univ)
    (Finset.subset_univ _)) $$ Hpart; iintro Hpart
  rw [write_part]
  iapply (wp_exch X K Kt c ha) $$ [HR Hpart Hfirst Hsec]
  · isplitl [HR]; · iexact HR
    isplitl [Hpart]; · rw [← hp]; iexact Hpart
    isplitl [Hfirst] <;> iassumption
  iintro HP
  iapply Hk
  isplitr [HP]
  · isplitl [Hx]; · iexact Hx
    isplitl [Hwq]; · iexact Hwq
    isplitl [Hwo]; · iexact Hwo
    isplitl [Hkk] <;> iassumption
  iexact HP

/-! ## A device's cells -/

omit [FloatOps F] in
/-- A family over a device's cells: the barrier's, and in each array the idle entry's and the peer steps'. -/
theorem cells_split (c : Dev nD) (Ψ : Option (Fin 4 × Fin 32) → sProp 𝕄) :
    bigSep Finset.univ Ψ = iprop(Ψ none
      ∗ (Ψ (some (0, 0)) ∗ bigSep Finset.univ fun r : Fin 31 => Ψ (some (0, stepIx r)))
      ∗ (Ψ (some (1, c)) ∗ bigSep Finset.univ fun r : Fin 31 => Ψ (some (1, src c r)))
      ∗ (Ψ (some (2, 0)) ∗ bigSep Finset.univ fun r : Fin 31 => Ψ (some (2, stepIx r)))
      ∗ (Ψ (some (3, c)) ∗ bigSep Finset.univ fun r : Fin 31 => Ψ (some (3, src c r)))) := by
  rw [bigSep_option, bigSep_univ_prod, bigSep_fin4,
    split_steps stepIx_injective stepIx_ne (fun s => Ψ (some (0, s))), split_steps (src_injective c) (src_ne c) (fun s => Ψ (some (1, s))),
    split_steps stepIx_injective stepIx_ne (fun s => Ψ (some (2, s))), split_steps (src_injective c) (src_ne c) (fun s => Ψ (some (3, s)))]

/-- The positions at launch. -/
def poss (c : Dev nD) : sProp 𝕄 := bigSep Finset.univ fun k : Option (Fin 4 × Fin 32) => atPos ER (kcell (c, k)) 0 ∅ 0
/-- The cells closed: every counter at zero. -/
def closed (c : Dev nD) : sProp 𝕄 := bigSep Finset.univ fun k : Option (Fin 4 × Fin 32) => semVal (kcell (c, k)) 0

/-- The tokens of the duties the device pays. -/
def toks (c : Dev nD) : sProp 𝕄 :=
  iprop((bigSep Finset.univ fun r : Fin 31 => dutyTok ER (barCell (peer c r)) 0 c)
    ∗ (bigSep Finset.univ fun r : Fin 31 => dutyTok ER (dCell c 0 (stepIx r)) 0 0) ∗ (bigSep Finset.univ fun r : Fin 31 => dutyTok ER (dCell (peer c r) 1 c) 0 0)
    ∗ (bigSep Finset.univ fun r : Fin 31 => dutyTok ER (dCell c 2 (stepIx r)) 0 0) ∗ (bigSep Finset.univ fun r : Fin 31 => dutyTok ER (dCell (peer c r) 3 c) 0 0))

/-- The credit for its waits on what the others send. -/
def creds (c : Dev nD) : sProp 𝕄 :=
  iprop(cred (tallyAt (barCell c) () 31)
    ∗ (bigSep Finset.univ fun r : Fin 31 => cred (tallyAt (dCell c 1 (src c r)) () N)) ∗ (bigSep Finset.univ fun r : Fin 31 => cred (tallyAt (dCell c 3 (src c r)) () N)))

omit [FloatOps F] in
theorem rest_bar (c : Dev nD) :
    bigSep ((sched X).duties (barCell c) 0 \ ∅) (fun d => (sched X).payload (barCell c) 0 d)
      = bigSep Finset.univ fun r : Fin 31 => iprop((∃ f, accPts (F := F) (peer c r) c f) ∗ ∃ f, outPts (F := F) (peer c r) c f) := by
  rw [Finset.sdiff_empty, duties_bar]
  exact (bigSep_erase_steps (peer_injective c) (peer_ne c) _).trans (bigSep_steps _).symm

omit [FloatOps F] in
theorem close_bar (c : Dev nD) : records X K ⊢ iprop(atPos ER (barCell c) 1 ∅ 0 -∗ |={Set.univ}=> semVal (barCell c) 0) := by
  iintro #HR Hat
  imod (Rounds.cell_close ER (sched X) (Set.mem_univ (K (c, none))) (fun h => h) (R := 1) (duties_later X (barCell c))) $$ [Hat] with Hz
  · isplitr; · iapply (inv_bar X K c); iexact HR
    iexact Hat
  imodintro
  iexact Hz

omit [FloatOps F] in
theorem close_idle (c : Dev nD) {a : Fin 4} {s : Fin 32} (hu : ¬ Used c a.val s) :
    records X K ⊢ iprop(atPos ER (dCell c a s) 0 ∅ 0 -∗ |={Set.univ}=> semVal (dCell c a s) 0) := by
  iintro #HR Hat
  imod (Rounds.cell_close ER (sched X) (Set.mem_univ (K (c, some (a, s)))) (fun h => h) (R := 0) (fun r _ => duties_unused X c hu r)) $$ [Hat] with Hz
  · isplitr; · iapply (inv_dma X K c a s); iexact HR
    iexact Hat
  imodintro
  iexact Hz

omit [FloatOps F] in
theorem close_done (c : Dev nD) (a : Fin 4) (s : Fin 32) :
    iprop(records X K ∗ atPos ER (dCell c a s) 1 ∅ 0) ⊢ iprop(|={Set.univ}=> semVal (dCell c a s) 0) := by
  iintro ⟨#HR, Hat⟩
  imod (Rounds.cell_close ER (sched X) (Set.mem_univ (K (c, some (a, s)))) (fun h => h) (R := 1) (duties_later X (dCell c a s))) $$ [Hat] with Hz
  · isplitr; · iapply (inv_dma X K c a s); iexact HR
    iexact Hat
  imodintro
  iexact Hz

omit [FloatOps F] in
theorem close_steps (c : Dev nD) (a : Fin 4) (f : Fin 31 → Fin 32) :
    records X K ⊢ iprop((bigSep Finset.univ fun r : Fin 31 => atPos ER (dCell c a (f r)) 1 ∅ 0)
      -∗ |={Set.univ}=> bigSep Finset.univ fun r : Fin 31 => semVal (dCell c a (f r)) 0) := by
  have h : iprop(records X K ∗ bigSep Finset.univ fun r : Fin 31 => atPos ER (dCell c a (f r)) 1 ∅ 0)
      ⊢ (bigSep Finset.univ fun r : Fin 31 => iprop(|={Set.univ}=> semVal (dCell c a (f r)) 0) : sProp 𝕄) :=
    with_persistent fun r _ => close_done X K c a (f r)
  iintro #HR Hat
  iapply (h.trans (bigSep_fupd _ _))
  isplitr; · iexact HR
  iexact Hat

/-! ## The body -/

/-- What the body starts from: the invariants, tokens, positions and credit, the staged inputs, the result's buffer and
    the scratch buffers. -/
def devPre (c : Dev nD) (I : Ins F) : sProp 𝕄 :=
  iprop(along X K c (O₀ c) ∗ toks c ∗ poss c ∗ creds c ∗ inPts c I
    ∗ (∃ f : Vec F S2x128x512 .bf16, ((c : Thread nD τ).loc cc0_stg5_0) ↦{fullShare} f)
    ∗ (∃ f : Vec F S256x512 .bf16, ((c : Thread nD τ).loc cc0_scratch0) ↦{fullShare} f)
    ∗ (∃ f : Vec F S32x16x256 .bf16, ((c : Thread nD τ).loc cc0_scratch1) ↦{fullShare} f)
    ∗ (∃ f : Vec F S16x256 .bf16, ((c : Thread nD τ).loc cc0_scratch2) ↦{fullShare} f))

/-- What it leaves. -/
def devPost (c : Dev nD) (I : Ins F) : sProp 𝕄 :=
  iprop((∃ W : Waits sig Unit, owes (c : Thread nD τ) 0 W) ∗ closed c ∗ inPts c I
    ∗ (((c : Thread nD τ).loc cc0_stg5_0) ↦{fullShare} (outOf X.red : Vec F S2x128x512 .bf16))
    ∗ (∃ f : Vec F S256x512 .bf16, ((c : Thread nD τ).loc cc0_scratch0) ↦{fullShare} f)
    ∗ (∃ f : Vec F S32x16x256 .bf16, ((c : Thread nD τ).loc cc0_scratch1) ↦{fullShare} f)
    ∗ (∃ f : Vec F S16x256 .bf16, ((c : Thread nD τ).loc cc0_scratch2) ↦{fullShare} f))

omit [FloatOps F] in
theorem acc_ex (c j : Dev nD) (f : Vec F S32x16x256 .bf16) : (accPts (F := F) c j f : sProp 𝕄) ⊢ iprop(∃ f, accPts (F := F) c j f) :=
  exists_intro_trans (PROP := sProp 𝕄) f (Entails.refl _)
omit [FloatOps F] in
theorem out_ex (c j : Dev nD) (f : Vec F S2x128x512 .bf16) : (outPts (F := F) c j f : sProp 𝕄) ⊢ iprop(∃ f, outPts (F := F) c j f) :=
  exists_intro_trans (PROP := sProp 𝕄) f (Entails.refl _)
omit [FloatOps F] in
theorem acc_some (c : Dev nD) (f : Vec F S32x16x256 .bf16) :
    (bigSep Finset.univ fun r : Fin 31 => accPts (F := F) c (peer c r) f : sProp 𝕄) ⊢ bigSep Finset.univ fun r : Fin 31 => iprop(∃ f, accPts (F := F) c (peer c r) f) :=
  bigSep_mono fun r _ => acc_ex c (peer c r) f
omit [FloatOps F] in
theorem out_some (c : Dev nD) (f : Vec F S2x128x512 .bf16) :
    (bigSep Finset.univ fun r : Fin 31 => outPts (F := F) c (peer c r) f : sProp 𝕄) ⊢ bigSep Finset.univ fun r : Fin 31 => iprop(∃ f, outPts (F := F) c (peer c r) f) :=
  bigSep_mono fun r _ => out_ex c (peer c r) f

/-- The closing of all the cells. -/
theorem close_all (c : Dev nD) :
    records X K ⊢ iprop((atPos ER (barCell c) 1 ∅ 0
        ∗ (atPos ER (dCell c 0 0) 0 ∅ 0 ∗ bigSep Finset.univ fun r : Fin 31 => atPos ER (dCell c 0 (stepIx r)) 1 ∅ 0)
        ∗ (atPos ER (dCell c 1 c) 0 ∅ 0 ∗ bigSep Finset.univ fun r : Fin 31 => atPos ER (dCell c 1 (src c r)) 1 ∅ 0)
        ∗ (atPos ER (dCell c 2 0) 0 ∅ 0 ∗ bigSep Finset.univ fun r : Fin 31 => atPos ER (dCell c 2 (stepIx r)) 1 ∅ 0)
        ∗ (atPos ER (dCell c 3 c) 0 ∅ 0 ∗ bigSep Finset.univ fun r : Fin 31 => atPos ER (dCell c 3 (src c r)) 1 ∅ 0))
      -∗ |={Set.univ}=> closed c) := by
  iintro #HR ⟨Hb, ⟨H0, HA⟩, ⟨H1, HB⟩, ⟨H2, HC⟩, H3, HD⟩
  imod (close_bar X K c) $$ HR Hb with Hb
  imod (close_idle X K c (a := 0) (s := 0) (fun h => h rfl)) $$ HR H0 with H0
  imod (close_idle X K c (a := 1) (s := c) (fun h => h rfl)) $$ HR H1 with H1
  imod (close_idle X K c (a := 2) (s := 0) (fun h => h rfl)) $$ HR H2 with H2
  imod (close_idle X K c (a := 3) (s := c) (fun h => h rfl)) $$ HR H3 with H3
  imod (close_steps X K c 0 stepIx) $$ HR HA with HA
  imod (close_steps X K c 1 (src c)) $$ HR HB with HB
  imod (close_steps X K c 2 stepIx) $$ HR HC with HC
  imod (close_steps X K c 3 (src c)) $$ HR HD with HD
  imodintro
  unfold closed
  iapply (Entails.of_eq (cells_split c fun k => (semVal (kcell (c, k)) 0 : sProp 𝕄)).symm)
  isplitl [Hb]; · iexact Hb
  isplitl [H0 HA]; · isplitl [H0] <;> iassumption
  isplitl [H1 HB]; · isplitl [H1] <;> iassumption
  isplitl [H2 HC]; · isplitl [H2] <;> iassumption
  isplitl [H3] <;> iassumption

/-- The wait on the device's own barrier: from each peer its slot and its tile. -/
theorem wp_handshake (Kt : PUnit.{1} → sProp 𝕄) (c : Dev nD) (k : PUnit → KProg F) :
    iprop(along X K c (O₁ c) ∗ cred (tallyAt (barCell c) () 31) ∗ atPos ER (barCell c) 0 ∅ 0)
      ⊢ iprop(((along X K c (O₁ c) ∗ atPos ER (barCell c) 1 ∅ 0
          ∗ bigSep Finset.univ fun r : Fin 31 => iprop((∃ f, accPts (F := F) (peer c r) c f) ∗ ∃ f, outPts (F := F) (peer c r) c f)) -∗ WP c (k ⟨⟩) Kt)
        -∗ WP c (.op (.semWait barS (BitVec.toInt 31#32)) k) Kt) := by
  unfold along
  iintro ⟨⟨#Hrec, #Hlev, ⟨%W, HO⟩⟩, Hc, Hat⟩ Hk
  iapply (Rounds.wp_wait_rest_token 𝒱₀ ER (sched X) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (inv_bar X K c); iexact Hrec
    isplitl [Hc]; · iexact Hc
    isplitl [HO]; · iexact HO
    isplitr; · iapply (mayWait_above (above_O₁ c) c (.reg barS) (Nat.le_refl 1)); iexact Hlev
    iexact Hat
  iintro ⟨HO, Hat, -, Hpay⟩
  ihave Hpay := (Entails.of_eq (rest_bar X c)) $$ Hpay
  iapply Hk
  isplitl [HO]
  · isplitr; · iexact Hrec
    isplitr; · iexact Hlev
    iexists _; iexact HO
  isplitl [Hat] <;> iassumption

/-- The device's number is known. -/
theorem wp_device (Kt : PUnit.{1} → sProp 𝕄) (c : Dev nD) (k : Dev nD → KProg F) : WP c (k c) Kt ⊢ WP c (.op .deviceId k) Kt := by
  unfold WP
  rw [wp_deviceId]

/-- An update at the end. -/
theorem wp_close (Kt : PUnit.{1} → sProp 𝕄) (c : Dev nD) (k : KProg F) : WP c k (fun a => iprop(|={Set.univ}=> Kt a)) ⊢ WP c k Kt :=
  wp_fupd _ _ _ _ _

set_option maxHeartbeats 1000000 in
/-- The body, from `devPre` to `devPost`. -/
theorem sound_body (Kt : PUnit.{1} → sProp 𝕄) (c : Dev nD) (I : Ins F) (hp : partOf I = X.part c) (ha : redOf (sumOf X.part c) = X.red c) :
    devPre X K c I
      ⊢ iprop((devPost X c I -∗ Kt ⟨⟩)
          -∗ WP c (bodyProg xM wqM woM kM vM outM (Memref.isWhole_whole _) partM (Memref.isWhole_whole _) accM (Memref.isWhole_whole _)
              redM (Memref.isWhole_whole _) cc0_scratch3 cc0_scratch4 cc0_scratch5 cc0_scratch6) Kt) := by
  unfold bodyProg devPre toks poss creds
  iintro ⟨HR, ⟨HtB, HtA, HtA', HtC, HtC'⟩, Hpos, ⟨HcBar, HcB, HcD⟩, Hin, ⟨%fo, Hout⟩, Hpart, ⟨%fa, Hacc⟩, Hred⟩ Hk
  ihave Hpos := (Entails.of_eq (cells_split c fun k => (atPos ER (kcell (c, k)) 0 ∅ 0 : sProp 𝕄))) $$ Hpos
  icases Hpos with ⟨HaBar, ⟨Ha0, HaA⟩, ⟨Ha1, HaB⟩, ⟨Ha2, HaC⟩, Ha3, HaD⟩
  ihave Hout := (Entails.of_eq (out_tiles_peers c fo)) $$ Hout
  icases Hout with ⟨Hout, Houts⟩
  ihave Houts := (out_some c fo) $$ Houts
  ihave Hacc := (Entails.of_eq (acc_tiles_peers c fa)) $$ Hacc
  icases Hacc with ⟨Hacc, Haccs⟩
  ihave Haccs := (acc_some c fa) $$ Haccs
  ihave H1 := (zip (F := F) _ _ _) $$ [Haccs Houts]
  · isplitl [Haccs] <;> iassumption
  ihave H2 := (zip (F := F) _ _ _) $$ [HtB H1]
  · isplitl [HtB] <;> iassumption
  iapply (wp_device Kt c)
  iapply (wp_sigs X K Kt c) $$ [H2 HR]
  · isplitl [H2] <;> iassumption
  iintro HR
  iapply (wp_handshake X K Kt c) $$ [HR HcBar HaBar]
  · isplitl [HR]; · iexact HR
    isplitl [HcBar] <;> iassumption
  iintro ⟨HR, HaBar, Hpay⟩
  ihave Hpay := (unzip (F := F) _ _ _) $$ Hpay
  icases Hpay with ⟨Haccs, Houts⟩
  iapply (wp_close Kt c)
  iapply (wp_work X K (fun a => iprop(|={Set.univ}=> Kt a)) c I hp ha) $$ [HR Hin Hpart Hred HtA HtA' HtC HtC' HcB HcD HaA HaB HaC HaD Hout Hacc Haccs Houts]
  · isplitl [HR]; · iexact HR
    isplitl [Hin]; · iexact Hin
    isplitl [Hpart]; · iexact Hpart
    unfold firstPre secondPre
    isplitl [Haccs Hacc HtA HtA' HaA HcB HaB]
    · isplitl [Haccs]; · iexact Haccs
      isplitl [Hacc]; · iexists fa; iexact Hacc
      isplitl [HtA]; · iexact HtA
      isplitl [HtA']; · iexact HtA'
      isplitl [HaA]; · iexact HaA
      isplitl [HcB] <;> iassumption
    isplitl [Hred]; · unfold redPts; iexact Hred
    isplitl [Houts]; · iexact Houts
    isplitl [Hout]; · iexists fo; iexact Hout
    isplitl [HtC]; · iexact HtC
    isplitl [HtC']; · iexact HtC'
    isplitl [HaC]; · iexact HaC
    isplitl [HcD] <;> iassumption
  unfold runPost along
  iintro ⟨Hin, ⟨#Hrec, -, HO⟩, ⟨HaA, HaB, HaC, HaD⟩, Hout, Hpart, Hacc, Hred⟩
  imod (close_all X K c) $$ Hrec [HaBar Ha0 HaA Ha1 HaB Ha2 HaC Ha3 HaD] with Hz
  · isplitl [HaBar]; · iexact HaBar
    isplitl [Ha0 HaA]; · isplitl [Ha0] <;> iassumption
    isplitl [Ha1 HaB]; · isplitl [Ha1] <;> iassumption
    isplitl [Ha2 HaC]; · isplitl [Ha2] <;> iassumption
    isplitl [Ha3] <;> iassumption
  imodintro
  iapply Hk
  unfold devPost
  isplitl [HO]; · iexact HO
  isplitl [Hz]; · iexact Hz
  isplitl [Hin]; · iexact Hin
  isplitl [Hout]; · iexact Hout
  isplitl [Hpart]; · iexact Hpart
  isplitl [Hacc] <;> iassumption

end Cert.KProof

end
-- ==== Proof.Launch.lean ====
/-
The launch: what is staged, the body's obligation, the cells' invariants allocated and their tokens dealt to the devices
that pay them, the credit, and the run of the whole program on all devices.
-/
module

public import proofs.«01_k».proof.Proof.Device
public import Idealize.ShloMosaic.Lib.Pipeline.CollectiveSegs

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is staged -/

/-- The memory at launch: any contents, every semaphore at zero. -/
def s₀ : MemSt nD τ sig (Elt F) := ⟨m, fun _ => 0, ρ⟩

/-- A device's operands. -/
def insOf (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  wo := (win0_2.blk (0 : Fin 1)).view.read (Elt F) (m ((c : Thread nD τ).loc main_arg4))
  k := (win0_3.blk (0 : Fin 1)).view.read (Elt F) (m ((c : Thread nD τ).loc main_arg2))
  v := (win0_4.blk (0 : Fin 1)).view.read (Elt F) (m ((c : Thread nD τ).loc main_arg3))

/-- The exchanges' data. -/
def data : Data F := dataOf (insOf m)

/-! ## The body's obligation -/

def start (c : Dev nD) : sProp 𝕄 :=
  iprop((∃ K, records (data m) K ∗ toks c ∗ poss c) ∗ creds c ∗ levAts L lv)

/-- The scratch buffers. -/
def scratch (c : Dev nD) : sProp 𝕄 :=
  iprop((∃ f : Vec F S256x512 .bf16, ((c : Thread nD τ).loc cc0_scratch0) ↦{fullShare} f)
    ∗ (∃ f : Vec F S32x16x256 .bf16, ((c : Thread nD τ).loc cc0_scratch1) ↦{fullShare} f)
    ∗ (∃ f : Vec F S16x256 .bf16, ((c : Thread nD τ).loc cc0_scratch2) ↦{fullShare} f))

def Φ₀ (c : Dev nD) : sProp 𝕄 := iprop(start m c ∗ scratch c)
def Φ₁ (c : Dev nD) : sProp 𝕄 := iprop(scratch c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m c).x
    | ⟨1, _⟩ => (insOf m c).wq
    | ⟨2, _⟩ => (insOf m c).wo
    | ⟨3, _⟩ => (insOf m c).k
    | ⟨4, _⟩ => (insOf m c).v
    | ⟨5, _⟩ => outOf (data m).red
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 6)).fetch t = true := by rw [fin_N0 t]; rfl
theorem fetch_1 (t : Fin cfg0.N) : (cfg0.win (1 : Fin 6)).fetch t = true := by rw [fin_N0 t]; rfl
theorem fetch_2 (t : Fin cfg0.N) : (cfg0.win (2 : Fin 6)).fetch t = true := by rw [fin_N0 t]; rfl
theorem fetch_3 (t : Fin cfg0.N) : (cfg0.win (3 : Fin 6)).fetch t = true := by rw [fin_N0 t]; rfl
theorem fetch_4 (t : Fin cfg0.N) : (cfg0.win (4 : Fin 6)).fetch t = true := by rw [fin_N0 t]; rfl

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer held at given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (insOf m c).x ∗ stg c cc0_stg1_0 (insOf m c).wq ∗ stg c cc0_stg2_0 (insOf m c).wo
    ∗ stg c cc0_stg3_0 (insOf m c).k ∗ stg c cc0_stg4_0 (insOf m c).v ∗ stg c cc0_stg5_0 (outOf (data m).red))

omit [FloatOps F] in
theorem stg_intro (c : Dev nD) (b : Ref sig .tc) (Y : b.ty.Contents (Elt F)) :
    ((((c : Thread nD τ).loc b) ↦{fullShare} Y) : sProp 𝕄) ⊢ stg c b Y :=
  exists_intro_trans (PROP := sProp 𝕄) Y (by
    iintro H
    isplitr; · ipureintro; rfl
    iexact H)

theorem in_0 (c : Dev nD) (d) : (dats m ρ 0 c).before (0 : Fin 6) t0_0 d = (insOf m c).x := by unfold Dat.before; rw [if_pos (fetch_0 t0_0)]; rfl
theorem in_1 (c : Dev nD) (d) : (dats m ρ 0 c).before (1 : Fin 6) t0_0 d = (insOf m c).wq := by unfold Dat.before; rw [if_pos (fetch_1 t0_0)]; rfl
theorem in_2 (c : Dev nD) (d) : (dats m ρ 0 c).before (2 : Fin 6) t0_0 d = (insOf m c).wo := by unfold Dat.before; rw [if_pos (fetch_2 t0_0)]; rfl
theorem in_3 (c : Dev nD) (d) : (dats m ρ 0 c).before (3 : Fin 6) t0_0 d = (insOf m c).k := by unfold Dat.before; rw [if_pos (fetch_3 t0_0)]; rfl
theorem in_4 (c : Dev nD) (d) : (dats m ρ 0 c).before (4 : Fin 6) t0_0 d = (insOf m c).v := by unfold Dat.before; rw [if_pos (fetch_4 t0_0)]; rfl

set_option maxRecDepth 8000 in
set_option maxHeartbeats 1000000 in
theorem body_sound (c : Dev nD) :
    bodyPre m ρ c ⊢ wp frame (wpE (defs₀ (F := F)) 𝒱₀ (c : Thread nD τ) none) Set.univ
      (cc0_body xM (Memref.isWhole_whole _) wqM (Memref.isWhole_whole _) woM (Memref.isWhole_whole _) kM (Memref.isWhole_whole _) vM (Memref.isWhole_whole _)
        outM (Memref.isWhole_whole _) partM (Memref.isWhole_whole _) accM (Memref.isWhole_whole _) redM (Memref.isWhole_whole _)
        cc0_scratch3 cc0_scratch4 cc0_scratch5 cc0_scratch6) (fun _ => bodyPost m ρ c) := by
  rw [body_eq_loops]
  unfold bodyPre Φ₀ start scratch
  simp only [in_0, in_1, in_2, in_3, in_4]
  iintro ⟨⟨⟨⟨%K, Hrec, Htok, Hpos⟩, Hcr, Hlev⟩, Hp, Ha, Hr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  rw [show (dats m ρ 0 c).owed t0_0.castSucc = O₀ c from rfl]
  iapply (sound_body (data m) K (fun _ => bodyPost m ρ c) c (insOf m c) rfl rfl) $$ [Hrec Htok Hpos Hcr Hlev Hp Ha Hr HO H0 H1 H2 H3 H4 H5]
  · unfold devPre along inPts
    isplitl [Hrec Hlev HO]
    · isplitl [Hrec]; · iexact Hrec
      isplitl [Hlev]; · iexact Hlev
      iexists W; iexact HO
    isplitl [Htok]; · iexact Htok
    isplitl [Hpos]; · iexact Hpos
    isplitl [Hcr]; · iexact Hcr
    isplitl [H0 H1 H2 H3 H4]
    · isplitl [H0]; · iexact H0
      isplitl [H1]; · iexact H1
      isplitl [H2]; · iexact H2
      isplitl [H3] <;> iassumption
    isplitl [H5]; · iexists g5; iexact H5
    isplitl [Hp]; · iexact Hp
    isplitl [Ha] <;> iassumption
  unfold devPost inPts
  iintro ⟨⟨%W', HO⟩, Hz, ⟨H0, H1, H2, H3, H4⟩, H5, Hp, Ha, Hr⟩
  unfold bodyPost Φ₁ scratch Dat.owesAt Pipeline.owesWithin
  rw [show (dats m ρ 0 c).owed t0_0.succ = 0 from rfl]
  isplitl [Hz Hp Ha Hr]
  · isplitr [Hz]
    · isplitl [Hp]; · iexact Hp
      isplitl [Ha] <;> iassumption
    iexact Hz
  isplitl [HO]
  · iexists W'
    isplitr; · ipureintro; exact fun _ _ => Or.inl trivial
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  iapply (stg_intro c cc0_stg5_0); iexact H5

set_option maxRecDepth 100000 in
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = _ from funext bigSep_W0]
  simp only [owns_whole_eq]
  show bodyPre m ρ c ⊢ wp frame (wpE (defs₀ (F := F)) 𝒱₀ (c : Thread nD τ) none) Set.univ
      (cc0_body xM (Memref.isWhole_whole _) wqM (Memref.isWhole_whole _) woM (Memref.isWhole_whole _) kM (Memref.isWhole_whole _) vM (Memref.isWhole_whole _)
        outM (Memref.isWhole_whole _) partM (Memref.isWhole_whole _) accM (Memref.isWhole_whole _) redM (Memref.isWhole_whole _)
        cc0_scratch3 cc0_scratch4 cc0_scratch5 cc0_scratch6) (fun _ => bodyPost m ρ c)
  exact body_sound m ρ c

/-! ## The tokens: minted by the cell's device, dealt to the device that pays -/

theorem osem_scoped : ∀ (a : Fin 4) (s : Fin 32), (SemLoc.dma (dsem a s) : SemLoc sig).isScoped .tc = true := by decide +kernel
theorem stage_sem_lt : ∀ (w : Fin 6) (s : Fin (cfg0.spec w).nbuf), ((cfg0.spec w).sem s).val < 6 := by decide +kernel
theorem ownSemFacts : Pipeline.OwnSemFacts cfg0.spec osem where
  isScoped k := osem_scoped k.1 k.2
  inj k k' h := by
    obtain ⟨h1, h2⟩ := dsem_injective (SemLoc.dma.inj h)
    exact Prod.ext h1 h2
  disj k w s h := by
    have h1 : (dsem k.1 k.2).val = ((cfg0.spec w).sem s).val := congrArg Fin.val (SemLoc.dma.inj h)
    have h2 := stage_sem_lt w s
    simp only [dsem] at h1
    omega

theorem share_eq (c : Dev nD) (w : Fin cfg0.W) : (dats m ρ 0 c).share w = fullShare := by unfold Dat.share; split <;> rfl

theorem csem_injective : Function.Injective csem := by
  rintro (_ | ⟨a, s⟩) (_ | ⟨a', s'⟩) h
  · rfl
  · cases h
  · cases h
  · obtain ⟨h1, h2⟩ := dsem_injective (SemLoc.dma.inj h)
    exact congrArg some (Prod.ext h1 h2)
theorem kcell_injective : Function.Injective (kcell : Dev nD × Option (Fin 4 × Fin 32) → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The entry of array `a` used at step `r`: by peer step for sends, by device for receives. -/
def entAt (c : Dev nD) (a : Fin 4) (r : Fin 31) : Fin 32 := if a.val % 2 = 0 then stepIx r else src c r
theorem entAt_injective (c : Dev nD) (a : Fin 4) : Function.Injective (entAt c a) := fun r r' h => by
  unfold entAt at h
  split at h
  · exact stepIx_injective h
  · exact src_injective c h

/-- A minted token: of the barrier's duty named by the device it is for, or of a transfer semaphore's one duty. -/
def tokOf (x : Dev nD × (Option (Fin 4) × Fin 31)) : GSem nD τ sig × ℕ × Dev nD := match x.2.1 with
  | none => (barCell x.1, 0, src x.1 x.2.2)
  | some a => (dCell x.1 a (entAt x.1 a x.2.2), 0, 0)
theorem tokOf_injective : Function.Injective tokOf := by
  rintro ⟨c, a, r⟩ ⟨c', a', r'⟩ h
  have h1 : c = c' := by
    have := congrArg (fun x : GSem nD τ sig × ℕ × Dev nD => x.1.1.1) h
    rcases a with _ | a <;> rcases a' with _ | a' <;> exact this
  subst h1
  have h2 := congrArg (fun x : GSem nD τ sig × ℕ × Dev nD => x.1.2) h
  have h3 := congrArg (fun x : GSem nD τ sig × ℕ × Dev nD => x.2.2) h
  rcases a with _ | a <;> rcases a' with _ | a'
  · rw [src_injective c (show src c r = src c r' from h3)]
  · cases h2
  · cases h2
  · obtain ⟨e1, e2⟩ := dsem_injective (SemLoc.dma.inj (show SemLoc.dma (dsem a (entAt c a r)) = SemLoc.dma (dsem a' (entAt c a' r')) from h2))
    subst e1
    rw [entAt_injective c a e2]
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens of a device's own cells. -/
def minted (c : Dev nD) : sProp 𝕄 :=
  iprop((bigSep Finset.univ fun r : Fin 31 => dutyTok ER (barCell c) 0 (src c r))
    ∗ (bigSep Finset.univ fun r : Fin 31 => dutyTok ER (dCell c 0 (stepIx r)) 0 0) ∗ (bigSep Finset.univ fun r : Fin 31 => dutyTok ER (dCell c 1 (src c r)) 0 0)
    ∗ (bigSep Finset.univ fun r : Fin 31 => dutyTok ER (dCell c 2 (stepIx r)) 0 0) ∗ (bigSep Finset.univ fun r : Fin 31 => dutyTok ER (dCell c 3 (src c r)) 0 0))

/-- The devices, moved on by `r + 1`. -/
def turn (r : Fin 31) : Dev nD ≃ Dev nD := ⟨fun c => peer c r, fun c => src c r, fun c => src_peer c r, fun c => peer_src c r⟩

omit [FloatOps F] in
/-- A family over devices and steps, read at each step from the peer's side. -/
theorem around (Φ : Dev nD → Fin 31 → sProp 𝕄) :
    (bigSep Finset.univ fun c : Dev nD => bigSep Finset.univ fun r : Fin 31 => Φ c r)
      = bigSep Finset.univ fun c : Dev nD => bigSep Finset.univ fun r : Fin 31 => Φ (peer c r) r := by
  rw [BI.bigSep_univ_comm, bigSep_congr fun (r : Fin 31) _ => BI.bigSep_univ_equiv (turn r) fun c : Dev nD => Φ c r, BI.bigSep_univ_comm]
  rfl

omit [FloatOps F] in
theorem toks_around : (bigSep Finset.univ fun c : Dev nD => (minted c : sProp 𝕄)) ⊢ bigSep Finset.univ fun c : Dev nD => toks c := by
  unfold minted toks
  simp only [bigSep_sep']
  rw [around fun c r => dutyTok ER (barCell c) 0 (src c r), around fun c r => dutyTok ER (dCell c 1 (src c r)) 0 0,
    around fun c r => dutyTok ER (dCell c 3 (src c r)) 0 0]
  simp only [src_peer]
  exact Entails.refl _

/-! ## The invariants -/

def G (c : Dev nD) : sProp 𝕄 :=
  iprop((bigSep Finset.univ fun k : Option (Fin 4 × Fin 32) => roundState ER (sched (data m)) (kcell (c, k)) 0)
    ∗ (bigSep Finset.univ fun k : Option (Fin 4 × Fin 32) => iprop(atPos ER (kcell (c, k)) 0 ∅ 0 ∗ reached ER (kcell (c, k)) 0)) ∗ minted c)

def G' (c : Dev nD) : sProp 𝕄 := iprop(∃ K, records (data m) K ∗ toks c ∗ poss c)

omit [FloatOps F] in
theorem cells_by (Φ : GSem nD τ sig → sProp 𝕄) :
    bigSep allCells Φ = bigSep Finset.univ fun c : Dev nD => bigSep Finset.univ fun k : Option (Fin 4 × Fin 32) => Φ (kcell (c, k)) := by
  unfold allCells; rw [bigSep_map, bigSep_univ_prod]; rfl

omit [FloatOps F] in
theorem toks_by : bigSep allToks (fun x => (dutyTok ER x.1 x.2.1 x.2.2 : sProp 𝕄)) = bigSep Finset.univ fun c : Dev nD => minted c := by
  unfold allToks
  rw [bigSep_map, bigSep_univ_prod]
  refine bigSep_congr fun c _ => ?_
  rw [bigSep_univ_prod, bigSep_option, bigSep_fin4]
  rfl

theorem fund_cells : BI.own (ER (initOf allCells allToks)) ⊢ (|==> bigSep Finset.univ (G m) : sProp 𝕄) := by
  iintro HX
  imod (Rounds.fund ER (sched (data m)) allCells allToks) $$ HX with ⟨Hst, Hr, Hat, Htok⟩
  imodintro
  ihave Hst' := (Entails.of_eq (cells_by fun g => roundState ER (sched (data m)) g 0)) $$ Hst
  ihave Hat' := (Entails.of_eq (cells_by fun g => atPos ER g 0 ∅ 0)) $$ Hat
  ihave Hr' := (Entails.of_eq (cells_by fun g => reached ER g 0)) $$ Hr
  ihave Htok' := (Entails.of_eq (toks_by (F := F))) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem closed_eq (c : Dev nD) :
    (closed c : sProp 𝕄) = iprop(unscopedSems0 c ∗ Pipeline.ownSems0 (Ix := Unit) (Name := ℕ) (U := UU) (Lvl := ℕ) (Val := Elt F) (τ := τ) osem c) := by
  unfold closed Pipeline.ownSems0
  rw [bigSep_option, unscopedSems0_eq]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (data m)) κ (kcell (c, k))))
          ∗ (bigSep Finset.univ fun k => iprop(atPos ER (kcell (c, k)) 0 ∅ 0 ∗ reached ER (kcell (c, k)) 0)) ∗ minted c) := by
  have h : iprop((closed c : sProp 𝕄) ∗ bigSep Finset.univ fun k : Option (Fin 4 × Fin 32) => roundState ER (sched (data m)) (kcell (c, k)) 0)
      ⊢ |={Set.univ}=> bigSep Finset.univ fun k => iprop(∃ κ : ℕ, cellInv ER (sched (data m)) κ (kcell (c, k))) := by
    unfold closed
    rw [← bigSep_sep']
    exact (bigSep_mono fun k _ => (Rounds.body_intro ER (sched (data m)) (kcell (c, k))).trans inv_alloc).trans (bigSep_fupd _ _)
  unfold G
  iintro ⟨Hos, Hus, Hst, Hat, Htok⟩
  imod h $$ [Hos Hus Hst] with Hinv
  · isplitl [Hos Hus]
    · iapply (Entails.of_eq (closed_eq (F := F) c).symm)
      isplitl [Hus] <;> iassumption
    iexact Hst
  imodintro
  isplitl [Hinv]; · iexact Hinv
  isplitl [Hat]; · iexact Hat
  iexact Htok

theorem deal (K : Dev nD × Option (Fin 4 × Fin 32) → ℕ) (c : Dev nD) :
    iprop(records (data m) K ∗ toks c ∗ poss c) ⊢ G' m c := by
  unfold G'
  iintro H
  iexists K
  iexact H

theorem regroup :
    (bigSep Finset.univ fun c : Dev nD => iprop((bigSep Finset.univ fun k => iprop(∃ κ : ℕ, cellInv ER (sched (data m)) κ (kcell (c, k))))
          ∗ (bigSep Finset.univ fun k => iprop(atPos ER (kcell (c, k)) 0 ∅ 0 ∗ reached ER (kcell (c, k)) 0)) ∗ minted c) : sProp 𝕄)
      ⊢ bigSep Finset.univ (G' m) := by
  rw [bigSep_sep', bigSep_sep', ← bigSep_univ_prod (fun ck : Dev nD × Option (Fin 4 × Fin 32) => iprop(∃ κ : ℕ, cellInv ER (sched (data m)) κ (kcell ck))),
    bigSep_congr (s := Finset.univ) (fun (c : Dev nD) _ => bigSep_sep' Finset.univ (fun k : Option (Fin 4 × Fin 32) => (atPos ER (kcell (c, k)) 0 ∅ 0 : sProp 𝕄)) (fun k => reached ER (kcell (c, k)) 0)),
    bigSep_sep', ← bigSep_univ_prod (fun ck : Dev nD × Option (Fin 4 × Fin 32) => (reached ER (kcell ck) 0 : sProp 𝕄))]
  iintro ⟨HI, ⟨Hat, #HR⟩, Htok⟩
  ihave HK := (BI.bigSep_exists_pi Finset.univ (fun (ck : Dev nD × Option (Fin 4 × Fin 32)) (κ : ℕ) => (cellInv ER (sched (data m)) κ (kcell ck) : sProp 𝕄))) $$ HI
  icases HK with ⟨%K, #HI⟩
  ihave Htk := (toks_around (F := F)) $$ Htok
  iapply (with_persistent (R := records (data m) K) fun c _ => deal m K c)
  isplitr
  · unfold records; isplitl; · iexact HI
    iexact HR
  · unfold poss
    iapply (zip (F := F) _ _ _)
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

omit [FloatOps F] in
theorem cred_bar (c : Dev nD) :
    (Pipeline.launchCred (fun d => ∑ r, obar d r) c : sProp 𝕄) ⊢ cred (tallyAt (barCell c) () 31) := by
  have h : (∑ _r : Fin 31, tallyAt (barCell c) () 1 : CellTallies nD τ sig Unit) = tallyAt (barCell c) () 31 := by
    have e : ∀ n : ℕ, (n • tallyAt (barCell c) () 1 : CellTallies nD τ sig Unit) = tallyAt (barCell c) () n := by
      intro n
      induction n with
      | zero => rw [zero_smul, tallyAt_zero]
      | succ n ih => rw [succ_nsmul, ih, tallyAt_add]
    rw [Finset.sum_const, Finset.card_univ, Fintype.card_fin, e]
  rw [Pipeline.launchCred_sum, ← h, Pipeline.cred_finsetSum]
  exact bigSep_mono fun r _ => Pipeline.launchCred_tallyAt (.reg barS) (fun d => peer d r) (fun d => src d r) (fun d => peer_src d r) (fun d => src_peer d r) () 1 c

omit [FloatOps F] in
theorem cred_recv (a : Fin 4) (c : Dev nD) :
    (Pipeline.launchCred (fun d => ∑ r, (tallyAt (dCell (peer d r) a d) () N : CellTallies nD τ sig Unit)) c : sProp 𝕄)
      ⊢ bigSep Finset.univ fun r : Fin 31 => cred (tallyAt (dCell c a (src c r)) () N) := by
  rw [Pipeline.launchCred_sum]
  refine bigSep_mono fun r _ => Entails.of_eq (Pipeline.launchCred_of_sum _ (fun d => tallyAt (dCell d a (src d r)) () N) ?_ ?_ c)
  · rw [← Equiv.sum_comp (turn r) fun d => (tallyAt (dCell d a (src d r)) () N : CellTallies nD τ sig Unit)]
    exact Finset.sum_congr rfl fun d _ => by
      show _ = tallyAt (dCell (peer d r) a (src (peer d r) r)) () N
      rw [src_peer]
  · intro d g hg
    by_contra hne
    exact hg (tallyAt_ne_cell (fun h => hne (congrArg Prod.fst h)) _ _)

omit [FloatOps F] in
theorem creds_of (c : Dev nD) : (Pipeline.launchCred O₀ c : sProp 𝕄) ⊢ creds c := by
  have e : O₀ = fun d => ((∑ r, orec2 d r) + ∑ r, orec1 d r) + ∑ r, obar d r := funext fun d => by
    unfold O₀ O₁; rw [owL_sum, owL_sum, owL_sum]
  rw [e, Pipeline.launchCred_add, Pipeline.launchCred_add]
  unfold creds
  iintro ⟨⟨H2, H1⟩, H0⟩
  isplitl [H0]; · iapply (cred_bar c); iexact H0
  isplitl [H1]; · iapply (cred_recv 1 c); iexact H1
  iapply (cred_recv 3 c); iexact H2

/-! ## The side conditions and the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [closed_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_above (cut := 0) (by
      rcases t with ⟨_ | _, ht⟩
      · exact above_O₀ c
      · exact above_zero 0) c _ (by fin_cases w <;> fin_cases s <;> decide)

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On 32 devices, for any float values and from any memory with zero counters, every fair run ends, with the operands as
    they were, the result computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Frames.lean ====
/-
The three frames: the kernel's from the one run over any float values, the reference's from its own run.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.KProof

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- An operand's array ends as it was. -/
theorem kept (c : Dev nD) (w : Fin cfg0.W) (h : (cfg0.win w).isOut = false) :
    finalA m ρ c w = m ((cfg0.win w).arr.view.loc (c : Thread nD τ)) :=
  (dats (F := F) m ρ 0 c).arrAt_in w h _

/-- What every final state holds, operand by operand. -/
theorem operands {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans (kept m ρ c (0 : Fin 6) rfl), (h c (1 : Fin 6)).trans (kept m ρ c (1 : Fin 6) rfl),
    (h c (3 : Fin 6)).trans (kept m ρ c (3 : Fin 6) rfl), (h c (4 : Fin 6)).trans (kept m ρ c (4 : Fin 6) rfl),
    (h c (2 : Fin 6)).trans (kept m ρ c (2 : Fin 6) rfl)⟩

/-- The result's array ends holding what the exchanges leave. -/
theorem result_eq (c : Dev nD) : (win0_5.blk (0 : Fin 1)).view.read (Elt F) (finalA m ρ c (5 : Fin 6)) = outOf (data m).red := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The run read at the operands and the counters, for any float values. -/
theorem frame_any : θ_run (Cert.KernelIdeal.defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.KernelIdeal.defs _ _).mono (fun _ h => ⟨fun c => operands m ρ h.1 c, h.2⟩) (run_main m ρ)

theorem frame_ideal : Cert.quiescent_KernelIdeal := fun m ρ _ => frame_any m ρ

/-- The kernel and its idealization are one text, so one table of bodies. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) => rfl
  | ⟨_ + 1, h⟩, _ => exact absurd h (Nat.not_lt.2 (Nat.le_add_left _ _))
theorem defs_eq : Cert.Kernel.defs (F := Bits) = Cert.KernelIdeal.defs (F := Bits) :=
  congrArg (fun d => Pipeline.defs Cert.KernelIdeal.pcfgs d) bodies_eq

/-- The kernel's frame: the same run, at the bit patterns. -/
theorem frame_kernel : Cert.quiescent_Kernel := fun m ρ _ => by
  have h := frame_any (F := Bits) m ρ
  rw [← defs_eq] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.Softmax.lean ====
/-
One row of attention over the extended reals, as the kernel and as the reference compute it, and why they agree.

The kernel divides each exponential by the row sum and then weighs the values; the reference weighs the values by the
exponentials and then divides, carrying along a maximum that starts at −∞ and sums that start at 0. Where the scores are
real the row sum is a positive real, and multiplying by its inverse distributes over any sum of extended reals, so the
values need not be finite. The scores must be: at a row of infinite scores the exponentials and the row sum are all 0.
-/
module

public import Idealize.ShloMosaic.PureOps.Ideal
public import Idealize.ShloMosaic.PureOps.Ideal.Laws

@[expose] public section

noncomputable section

namespace Cert.KProof

open Idealize.ShloMosaic

/-! ## Finite extended reals -/

/-- Neither infinity. -/
def IsReal (a : EReal) : Prop := ∃ r : ℝ, a = (r : EReal)

theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.sum {ι : Type} {S : Finset ι} {f : ι → EReal} (h : ∀ i, IsReal (f i)) : IsReal (∑ i ∈ S, f i) := by
  classical
  induction S using Finset.induction_on with
  | empty => exact ⟨0, rfl⟩
  | insert i S hi ih =>
    obtain ⟨r, hr⟩ := h i; obtain ⟨t, ht⟩ := ih
    exact ⟨r + t, by rw [Finset.sum_insert hi, hr, ht, EReal.coe_add]⟩

/-- A finite factor that is not negative distributes over any sum. -/
theorem sum_times {ι : Type} (S : Finset ι) (f : ι → EReal) {c : ℝ} (hc : 0 ≤ c) : (∑ i ∈ S, f i) * (c : EReal) = ∑ i ∈ S, f i * (c : EReal) := by
  classical
  induction S using Finset.induction_on with
  | empty => simp
  | insert i S hi ih =>
    rw [Finset.sum_insert hi, Finset.sum_insert hi, ← ih,
      EReal.right_distrib_of_nonneg_of_ne_top (EReal.coe_nonneg.mpr hc) (EReal.coe_ne_top c)]

/-! ## The constants -/

/-- −∞. -/
theorem ofBits_bot : Ideal.ofBits .f32 0xFF800000#32 = ⊥ := by simp [Ideal.ofBits, Ideal.ieee]
/-- The scale is an eighth; what matters is that it is a real and not negative. -/
theorem ofBits_scale : ∃ c : ℝ, 0 ≤ c ∧ Ideal.ofBits .f32 0x3E000000#32 = (c : EReal) := by
  refine ⟨8388608 * (2 : ℝ) ^ (-26 : ℤ), by positivity, ?_⟩
  simp [Ideal.ofBits, Ideal.ieee]

/-! ## A row -/

/-- The maximum of a row of scores, from −∞. -/
def rowTop (s : Fin 128 → EReal) : EReal := Finset.univ.fold (fun a b : EReal => max a b) (Ideal.ofBits .f32 0xFF800000#32) s

/-- A row as the kernel computes it: normalise, then weigh. -/
def rowK (s v : Fin 128 → EReal) : EReal :=
  ∑ j, Ideal.div (Ideal.exp (s j - rowTop s)) (∑ k, Ideal.exp (s k - rowTop s)) * v j

/-- A row as the reference computes it: weigh, then normalise, with the sums and the maximum carried from their starts. -/
def rowR (s v : Fin 128 → EReal) : EReal :=
  let mx := max (Ideal.ofBits .f32 0xFF800000#32) (rowTop s)
  let a := Ideal.exp (Ideal.ofBits .f32 0xFF800000#32 - mx)
  Ideal.div (0 * a + ∑ j, v j * Ideal.exp (s j - mx)) (0 * a + ∑ j, Ideal.exp (s j - mx))

theorem fold_mem {ι : Type} (s : ι → EReal) (S : Finset ι) : S.fold (fun a b : EReal => max a b) ⊥ s = ⊥ ∨ ∃ j, S.fold (fun a b : EReal => max a b) ⊥ s = s j := by
  classical
  induction S using Finset.induction_on with
  | empty => exact .inl rfl
  | insert i S hi ih =>
    rw [Finset.fold_insert hi]
    rcases le_total (s i) (S.fold (fun a b : EReal => max a b) ⊥ s) with h | h
    · rw [max_eq_right h]; exact ih
    · rw [max_eq_left h]; exact .inr ⟨i, rfl⟩

/-- The maximum of a row of reals is one of them. -/
theorem rowTop_real {s : Fin 128 → EReal} (h : ∀ j, IsReal (s j)) : IsReal (rowTop s) := by
  unfold rowTop
  rw [ofBits_bot]
  rcases fold_mem s Finset.univ with e | ⟨j, e⟩
  · obtain ⟨r, hr⟩ := h 0
    have hle : s 0 ≤ Finset.univ.fold (fun a b : EReal => max a b) ⊥ s :=
      (Finset.le_fold_max (s 0)).mpr (.inr ⟨0, Finset.mem_univ _, le_rfl⟩)
    rw [e, hr] at hle
    exact absurd (le_bot_iff.mp hle) (EReal.coe_ne_bot r)
  · rw [e]; exact h j

theorem coe_sum {ι : Type} (S : Finset ι) (f : ι → ℝ) : (∑ i ∈ S, (f i : EReal)) = ((∑ i ∈ S, f i : ℝ) : EReal) := by
  classical
  induction S using Finset.induction_on with
  | empty => rfl
  | insert i S hi ih => rw [Finset.sum_insert hi, Finset.sum_insert hi, ih, EReal.coe_add]

theorem row_eq {s : Fin 128 → EReal} (h : ∀ j, IsReal (s j)) (v : Fin 128 → EReal) : rowK s v = rowR s v := by
  obtain ⟨M, hM⟩ := rowTop_real h
  choose r hr using h
  have hp : ∀ j, Ideal.exp (s j - rowTop s) = ((Real.exp (r j - M) : ℝ) : EReal) := fun j => by
    rw [hr, hM, ← EReal.coe_sub]; rfl
  have hL : 0 < ∑ j, Real.exp (r j - M) := Finset.sum_pos (fun j _ => Real.exp_pos _) ⟨0, Finset.mem_univ _⟩
  unfold rowK rowR
  rw [ofBits_bot, max_eq_right (bot_le : ⊥ ≤ rowTop s)]
  simp only [hp, zero_mul, zero_add, coe_sum]
  have hd : ∀ y : EReal, Ideal.div y ((∑ j, Real.exp (r j - M) : ℝ) : EReal) = y * (((∑ j, Real.exp (r j - M))⁻¹ : ℝ) : EReal) := fun y => by
    unfold Ideal.div
    rw [if_neg (by exact_mod_cast hL.ne'), EReal.coe_inv]
  simp only [hd]
  rw [sum_times _ _ (inv_nonneg.mpr hL.le)]
  refine Finset.sum_congr rfl fun j _ => ?_
  rw [mul_right_comm, mul_comm (v j)]

/-! ## The scores -/

/-- The kernel scales the queries, the reference the scores. -/
theorem score_eq (q k : Fin 64 → EReal) :
    ∑ d, q d * Ideal.ofBits .f32 0x3E000000#32 * k d = (∑ d, q d * k d) * Ideal.ofBits .f32 0x3E000000#32 := by
  obtain ⟨c, hc, e⟩ := ofBits_scale
  rw [e, sum_times _ _ hc]
  exact Finset.sum_congr rfl fun d _ => mul_right_comm _ _ _

theorem score_real {q k : Fin 64 → EReal} (hq : ∀ d, IsReal (q d)) (hk : ∀ d, IsReal (k d)) :
    IsReal ((∑ d, q d * k d) * Ideal.ofBits .f32 0x3E000000#32) := by
  obtain ⟨c, hc, e⟩ := ofBits_scale
  exact (IsReal.sum fun d => (hq d).mul (hk d)).mul ⟨c, e⟩

end Cert.KProof

end
-- ==== Proof.KernValue.lean ====
/-
The kernel's result at an index, over the extended reals: the queries, a head's block, a device's partial result, and
the sum over the devices, each read at an index.
-/
module

public import proofs.«01_k».proof.Proof.Work
public import proofs.«01_k».proof.Proof.Softmax
public import Idealize.ShloMosaic.Lib.Pointwise

@[expose] public section

noncomputable section

namespace Cert.KProof

open Cert.KernelIdeal Cert.KernelIdeal.Gen
open Idealize.ShloMosaic Idealize.ShloMosaic.TcCoe
open Idealize.SL Idealize.SL.Sem

set_option maxRecDepth 16384

/-! ## A device's partial result -/

theorem query_apply (x : Vec Ideal S2x128x512 .bf16) (w : Vec Ideal S512x512 .bf16) (r : Fin 256) (e : Fin 512) :
    k0_pay1 x w (ix2 r e) = ∑ u : Fin 512, x (ix3 ⟨r.val / 128, by omega⟩ ⟨r.val % 128, Nat.mod_lt _ (by decide)⟩ u) * w (ix2 u e) := by
  pointwise [k0_pay1]
theorem key_apply (k : Vec Ideal S2x128x8x64 .bf16) (r : Fin 256) (e : Fin 512) :
    k0_pay2 k (ix2 r e) = k (ix4 ⟨r.val / 128, by omega⟩ ⟨r.val % 128, Nat.mod_lt _ (by decide)⟩ ⟨e.val / 64, by omega⟩ ⟨e.val % 64, Nat.mod_lt _ (by decide)⟩) := by
  pointwise [k0_pay2]
theorem value_apply (v : Vec Ideal S2x128x8x64 .bf16) (r : Fin 256) (e : Fin 512) :
    k0_pay3 v (ix2 r e) = v (ix4 ⟨r.val / 128, by omega⟩ ⟨r.val % 128, Nat.mod_lt _ (by decide)⟩ ⟨e.val / 64, by omega⟩ ⟨e.val % 64, Nat.mod_lt _ (by decide)⟩) := by
  pointwise [k0_pay3]
theorem project_apply (o : Vec Ideal S256x512 .bf16) (w : Vec Ideal S512x512 .bf16) (r : Fin 256) (e : Fin 512) :
    k0_pay37 (k0_pay36 w o) (ix2 r e) = ∑ f : Fin 512, o (ix2 r f) * w (ix2 f e) := by
  pointwise [k0_pay37, k0_pay36]

theorem headBlk_apply (q : FVec Ideal S256x512 .f32) (k v : FVec Ideal S256x512 .bf16) (y : Fin 2 × Fin 8) (r : Fin 128) (e : Fin 64) :
    headBlk q k v y (ix2 r e) =
      rowK (fun j => ∑ t : Fin 64, q (ix2 ⟨128 * y.1.val + r.val, by omega⟩ ⟨64 * y.2.val + t.val, by omega⟩) * Ideal.ofBits .f32 0x3E000000#32 *
          k (ix2 ⟨128 * y.1.val + j.val, by omega⟩ ⟨64 * y.2.val + t.val, by omega⟩))
        (fun j => v (ix2 ⟨128 * y.1.val + j.val, by omega⟩ ⟨64 * y.2.val + e.val, by omega⟩)) := by
  pointwise [headBlk, headOff, rowK, rowTop]

/-- A device's attention result by batch, query, its own head, and component. -/
def attnAt (I : Ins Ideal) (b : Fin 2) (i : Fin 128) (h : Fin 8) (d : Fin 64) : EReal :=
  rowK (fun j => ∑ t : Fin 64, (∑ u : Fin 512, I.x (ix3 b i u) * I.wq (ix2 u ⟨64 * h.val + t.val, by omega⟩)) * Ideal.ofBits .f32 0x3E000000#32 * I.k (ix4 b j h t))
    (fun j => I.v (ix4 b j h d))

theorem attnOf_apply (I : Ins Ideal) (b : Fin 2) (i : Fin 128) (f : Fin 512) :
    attnOf (k0_pay1 I.x I.wq) (k0_pay2 I.k) (k0_pay3 I.v) (ix2 ⟨128 * b.val + i.val, by omega⟩ f) =
      attnAt I b i ⟨f.val / 64, by omega⟩ ⟨f.val % 64, Nat.mod_lt _ (by decide)⟩ := by
  have hb : (128 * b.val + i.val) / 128 = b.val := by omega
  have hx : headIx (ix2 (⟨128 * b.val + i.val, by omega⟩ : Fin 256) f) = (b, ⟨f.val / 64, by omega⟩) :=
    Prod.ext (Fin.ext hb) (Fin.ext rfl)
  have hi : (⟨(128 * b.val + i.val) % 128, Nat.mod_lt _ (by decide)⟩ : Fin 128) = i := Fin.ext (by show (128 * b.val + i.val) % 128 = i.val; omega)
  have h1 : attnOf (k0_pay1 I.x I.wq) (k0_pay2 I.k) (k0_pay3 I.v) (ix2 ⟨128 * b.val + i.val, by omega⟩ f) =
      headBlk (k0_pay1 I.x I.wq) (k0_pay2 I.k) (k0_pay3 I.v) (b, ⟨f.val / 64, by omega⟩) (ix2 i ⟨f.val % 64, Nat.mod_lt _ (by decide)⟩) := by
    unfold attnOf
    rw [hx, ← ix2_eq_valueIdx]
    exact congrArg (fun z => headBlk (k0_pay1 I.x I.wq) (k0_pay2 I.k) (k0_pay3 I.v) (b, ⟨f.val / 64, by omega⟩) (ix2 z ⟨f.val % 64, Nat.mod_lt _ (by decide)⟩)) hi
  have hj : ∀ j : Fin 128, (128 * b.val + j.val) / 128 = b.val ∧ (128 * b.val + j.val) % 128 = j.val := fun j => by omega
  have ht : ∀ t : Fin 64, (64 * (f.val / 64) + t.val) / 64 = f.val / 64 ∧ (64 * (f.val / 64) + t.val) % 64 = t.val := fun t => by omega
  rw [h1, headBlk_apply]
  unfold attnAt
  have hd : (64 * (f.val / 64) + f.val % 64) / 64 = f.val / 64 ∧ (64 * (f.val / 64) + f.val % 64) % 64 = f.val % 64 := by omega
  simp only [query_apply, key_apply, value_apply, hj, ht, hd]

theorem partOf_apply (I : Ins Ideal) (b : Fin 2) (i : Fin 128) (e : Fin 512) :
    partOf I (ix2 ⟨128 * b.val + i.val, by omega⟩ e) =
      ∑ f : Fin 512, attnAt I b i ⟨f.val / 64, by omega⟩ ⟨f.val % 64, Nat.mod_lt _ (by decide)⟩ * I.wo (ix2 f e) := by
  unfold partOf
  rw [project_apply]
  exact Finset.sum_congr rfl fun f _ => congrArg (· * _) (attnOf_apply I b i f)

/-! ## The sum over the devices -/

theorem addTile_apply (a : FVec Ideal S16x256 .f32) (t : Vec Ideal S1x16x256 .bf16) (y : Fin 16) (z : Fin 256) :
    addTile a t (ix2 y z) = a (ix2 y z) + t (ix3 0 y z) := by
  pointwise [addTile]
theorem firstTile_apply (t : Vec Ideal S1x16x256 .bf16) (y : Fin 16) (z : Fin 256) : firstTile t (ix2 y z) = t (ix3 0 y z) := by
  pointwise [firstTile]
theorem redOf_apply (a : FVec Ideal S16x256 .f32) (y : Fin 16) (z : Fin 256) : redOf a (ix2 y z) = a (ix2 y z) := by
  pointwise [redOf]

theorem slotOf_apply (P : Dev nD → Vec Ideal S256x512 .bf16) (c s : Dev nD) (y : Fin 16) (z : Fin 256) :
    slotOf (accOf P c) s (ix3 0 y z) = tileOf (P s) c (ix2 y z) := by
  have h := accRect_emb s y z
  unfold slotOf
  rw [show (accRect s).emb (ix3 0 y z) = _ from h]
  rfl

theorem tileOf_apply (P : Vec Ideal S256x512 .bf16) (c : Dev nD) (y : Fin 16) (z : Fin 256) :
    tileOf P c (ix2 y z) = P (ix2 ⟨16 * (c.val / 2) + y.val, by have : c.val < 32 := c.isLt; omega⟩ ⟨256 * (c.val % 2) + z.val, by omega⟩) := by
  unfold tileOf
  refine congrArg P (funext fun a => ?_)
  match a with
  | ⟨0, _⟩ => exact Fin.ext (show 16 * (c.val / 2) + 1 * y.val = 16 * (c.val / 2) + y.val by omega)
  | ⟨1, _⟩ => exact Fin.ext (show 256 * (c.val % 2) + 1 * z.val = 256 * (c.val % 2) + z.val by omega)

theorem foldl_addTile (T : Fin 31 → Vec Ideal S1x16x256 .bf16) (y : Fin 16) (z : Fin 256) : ∀ (l : List (Fin 31)) (a : FVec Ideal S16x256 .f32),
    (l.foldl (fun a r => addTile a (T r)) a) (ix2 y z) = a (ix2 y z) + (l.map fun r => T r (ix3 0 y z)).sum
  | [], a => by simp
  | r :: l, a => by
    rw [List.foldl_cons, foldl_addTile T y z l, addTile_apply, List.map_cons, List.sum_cons, add_assoc]

theorem sum_steps (f : Fin 31 → EReal) : (steps.map f).sum = ∑ r, f r := by
  rw [show steps = List.finRange 31 from by decide]; exact (List.sum_ofFn (f := f) ▸ by rw [List.ofFn_eq_map])

/-- Every device's tile is taken once. -/
theorem sumOf_apply (P : Dev nD → Vec Ideal S256x512 .bf16) (c : Dev nD) (y : Fin 16) (z : Fin 256) :
    sumOf P c (ix2 y z) = ∑ d : Dev nD, tileOf (P d) c (ix2 y z) := by
  unfold sumOf
  rw [foldl_addTile, firstTile_apply, slotOf_apply, sum_steps]
  simp only [slotOf_apply]
  rw [← Finset.add_sum_erase Finset.univ (fun d : Dev nD => tileOf (P d) c (ix2 y z)) (Finset.mem_univ c),
    erase_eq_map (src_injective c) (src_ne c), Finset.sum_map]
  rfl

/-- The result at an index: the sum of the devices' partial results there. -/
theorem outOf_apply (I : Dev nD → Ins Ideal) (b : Fin 2) (i : Fin 128) (e : Fin 512) :
    outOf (dataOf I).red (ix3 b i e) = ∑ d : Dev nD, partOf (I d) (ix2 ⟨128 * b.val + i.val, by omega⟩ e) := by
  have hc : (ownerOf (ix3 b i e)).val = 16 * b.val + 2 * (i.val / 16) + e.val / 256 := rfl
  have h1 : outOf (dataOf I).red (ix3 b i e) = redOf (sumOf (fun d => partOf (I d)) (ownerOf (ix3 b i e)))
      (ix2 ⟨i.val % 16, Nat.mod_lt _ (by decide)⟩ ⟨e.val % 256, Nat.mod_lt _ (by decide)⟩) := rfl
  rw [h1, redOf_apply, sumOf_apply]
  refine Finset.sum_congr rfl fun d _ => ?_
  rw [tileOf_apply]
  congr 2
  · exact Fin.ext (by show 16 * ((ownerOf (ix3 b i e)).val / 2) + i.val % 16 = 128 * b.val + i.val; rw [hc]; omega)
  · exact Fin.ext (by show 256 * ((ownerOf (ix3 b i e)).val % 2) + e.val % 256 = e.val; rw [hc]; omega)

end Cert.KProof

end
-- ==== Proof.RefValue.lean ====
/-
The reference's result at an index, over the extended reals: its composed term cut into named arrays (queries, scores,
row maxima, exponentials, row sums, the attention, its product with the output weights), each read at an index.
-/
module

public import proofs.«01_k».proof.Proof.Gen.ReferenceIdeal.Run
public import proofs.«01_k».proof.Proof.Softmax
public import Idealize.ShloMosaic.Lib.Pointwise

@[expose] public section

noncomputable section

namespace Cert.KProof.Ref

open Cert.ReferenceIdeal Cert.ReferenceIdeal.Gen
open Idealize.ShloMosaic Idealize.ShloMosaic.TcCoe
open Idealize.SL Idealize.SL.Sem

set_option maxRecDepth 16384

variable (x : FVec Ideal S2x128x512 .bf16) (wq : FVec Ideal S512x16384 .bf16) (k v : FVec Ideal S2x128x256x64 .bf16)
  (wo : FVec Ideal S16384x512 .bf16)

/-- The scaled scores, by batch, head, query and key. -/
def scores : FVec Ideal S2x256x128x128 .f32 :=
  mulf (Host.dotGeneral dot_S2x128x256x64_S2x128x256x64_S2x256x128x128_3_3_1_1_02_02 none
      (shapeCast S2x128x256x64 (Host.dotGeneral dot_S2x128x512_S512x16384_S2x128x16384_2_0_01_1_n_n none
        (extf .f32 x bitsLt_bf16_f32) (extf .f32 wq bitsLt_bf16_f32) : FVec Ideal S2x128x16384 .f32) shapeCasts_S2x128x16384_S2x128x256x64)
      (extf .f32 k bitsLt_bf16_f32) : FVec Ideal S2x256x128x128 .f32)
    (broadcastInDim S2x256x128x128 ![] bcast_S_S2x256x128x128 (constant S_ .f32 0x3E000000#32))

/-- The block's row maxima. -/
def blockMax (s : FVec Ideal S2x256x128x128 .f32) : FVec Ideal S2x256x128 .f32 :=
  Host.reduce FloatOps.maximumf s (constant S_ .f32 0xFF800000#32) reducesTo_S2x256x128x128_S2x256x128_d3 h_S_

/-- The running maximum after the one block of keys: of −∞ and the row's maximum. -/
def rowMax (y : FVec Ideal S2x256x128 .f32) : FVec Ideal S2x256x128x1 .f32 :=
  maximumf (broadcastInDim S2x256x128x1 ![] bcast_S_S2x256x128x1 (constant S_ .f32 0xFF800000#32))
    (broadcastInDim S2x256x128x1 ![0, 1, 2] bcast_S2x256x128_S2x256x128x1_0_1_2 y)

/-- The factor that rescales what was accumulated before the block. -/
def rescale (mx : FVec Ideal S2x256x128x1 .f32) : FVec Ideal S2x256x128x1 .f32 :=
  Host.exp (subf (broadcastInDim S2x256x128x1 ![] bcast_S_S2x256x128x1 (constant S_ .f32 0xFF800000#32)) mx)

/-- The exponentials of the scores less the maximum. -/
def exps (s : FVec Ideal S2x256x128x128 .f32) (mx : FVec Ideal S2x256x128x1 .f32) : FVec Ideal S2x256x128x128 .f32 :=
  Host.exp (subf s (broadcastInDim S2x256x128x128 ![0, 1, 2, 3] bcast_S2x256x128x1_S2x256x128x128_0_1_2_3 mx))

/-- The accumulated row sum. -/
def rowSum (a : FVec Ideal S2x256x128x1 .f32) (p : FVec Ideal S2x256x128x128 .f32) : FVec Ideal S2x256x128x1 .f32 :=
  addf (mulf (broadcastInDim S2x256x128x1 ![] bcast_S_S2x256x128x1 (constant S_ .f32 0x00000000#32)) a)
    (broadcastInDim S2x256x128x1 ![0, 1, 2] bcast_S2x256x128_S2x256x128x1_0_1_2
      (Host.reduceAdd p (constant S_ .f32 0x00000000#32) reducesTo_S2x256x128x128_S2x256x128_d3 h_S_ : FVec Ideal S2x256x128 .f32))

/-- The accumulated weighted values, by batch, query, head and component. -/
def weighted (a : FVec Ideal S2x256x128x1 .f32) (p : FVec Ideal S2x256x128x128 .f32) : FVec Ideal S2x128x256x64 .f32 :=
  addf (mulf (broadcastInDim S2x128x256x64 ![] bcast_S_S2x128x256x64 (constant S_ .f32 0x00000000#32))
      (broadcastInDim S2x128x256x64 ![0, 1, 2, 3] bcast_S2x128x256x1_S2x128x256x64_0_1_2_3
        (transpose S2x128x256x1 [0, 2, 1, 3] a transposes_S2x256x128x1_S2x128x256x1_0_2_1_3)))
    (transpose S2x128x256x64 [0, 3, 1, 2]
      (Host.dotGeneral dot_S2x128x256x64_S2x256x128x128_S2x256x64x128_1_3_3_2_02_01 none (extf .f32 v bitsLt_bf16_f32) p : FVec Ideal S2x256x64x128 .f32)
      transposes_S2x256x64x128_S2x128x256x64_0_3_1_2)

/-- The attention's result and its product with the output weights. -/
def project (w : FVec Ideal S2x128x256x64 .f32) (l : FVec Ideal S2x256x128x1 .f32) : FVec Ideal S2x128x512 .bf16 :=
  truncf .bf16 (Host.dotGeneral dot_S2x128x16384_S16384x512_S2x128x512_2_0_01_1_n_n none
    (shapeCast S2x128x16384 (Host.divf w (broadcastInDim S2x128x256x64 ![0, 1, 2, 3] bcast_S2x128x256x1_S2x128x256x64_0_1_2_3
      (transpose S2x128x256x1 [0, 2, 1, 3] l transposes_S2x256x128x1_S2x128x256x1_0_2_1_3))) shapeCasts_S2x128x256x64_S2x128x16384)
    (extf .f32 wo bitsLt_bf16_f32) : FVec Ideal S2x128x512 .f32) bitsLt_bf16_f32

/-- The reference's result of the whole arrays. -/
def result : FVec Ideal S2x128x512 .bf16 :=
  let s := scores x wq k
  let mx := rowMax (blockMax s)
  let a := rescale mx
  let p := exps s mx
  project wo (weighted v a p) (rowSum a p)

theorem res_eq (m : (ℓ : Loc nD τ sig) → Buf (Elt Ideal) ℓ) (c : Dev nD) :
    Value.res_main_v36 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v36; rfl

theorem scores_apply (b : Fin 2) (h : Fin 256) (i j : Fin 128) : scores x wq k (ix4 b h i j) =
    (∑ d : Fin 64, (∑ u : Fin 512, x (ix3 b i u) * wq (ix2 u ⟨h.val * 64 + d.val, by omega⟩)) * k (ix4 b j h d)) * Ideal.ofBits .f32 0x3E000000#32 := by
  pointwise [scores]
theorem reduceMax_apply (H : S2x256x128x128.ReducesTo [3] S2x256x128) (hu : 0 < S_.numel) (s : FVec Ideal S2x256x128x128 .f32)
    (init : FVec Ideal S_ .f32) (z : EReal) (hz : ∀ i, init i = z) (b : Fin 2) (h : Fin 256) (i : Fin 128) :
    (Host.reduce FloatOps.maximumf s init H hu : FVec Ideal S2x256x128 .f32) (ix3 b h i) =
      Finset.univ.fold (fun a b : EReal => max a b) z fun j : Fin 128 => s (ix4 b h i j) := by
  refine (Host.reduce_eq_fold _ _ _ _ _ _).trans ?_
  refine (Shape.ReducesTo.fold_fiber_r4_a3 H _ _ _ _).trans ?_
  rw [hz]; rfl
theorem blockMax_apply (s : FVec Ideal S2x256x128x128 .f32) (b : Fin 2) (h : Fin 256) (i : Fin 128) : blockMax s (ix3 b h i) =
    Finset.univ.fold (fun a b : EReal => max a b) (Ideal.ofBits .f32 0xFF800000#32) fun j : Fin 128 => s (ix4 b h i j) :=
  reduceMax_apply reducesTo_S2x256x128x128_S2x256x128_d3 h_S_ s (constant S_ .f32 0xFF800000#32) _ (fun _ => rfl) b h i
theorem rowMax_apply (y : FVec Ideal S2x256x128 .f32) (b : Fin 2) (h : Fin 256) (i : Fin 128) (z : Fin 1) : rowMax y (ix4 b h i z) =
    max (Ideal.ofBits .f32 0xFF800000#32) (y (ix3 b h i)) := by
  pointwise [rowMax]
theorem rescale_apply (mx : FVec Ideal S2x256x128x1 .f32) (b : Fin 2) (h : Fin 256) (i : Fin 128) (z : Fin 1) :
    rescale mx (ix4 b h i z) = Ideal.exp (Ideal.ofBits .f32 0xFF800000#32 - mx (ix4 b h i z)) := by
  pointwise [rescale]
theorem exps_apply (s : FVec Ideal S2x256x128x128 .f32) (mx : FVec Ideal S2x256x128x1 .f32) (b : Fin 2) (h : Fin 256) (i j : Fin 128) :
    exps s mx (ix4 b h i j) = Ideal.exp (s (ix4 b h i j) - mx (ix4 b h i 0)) := by
  pointwise [exps]
theorem rowSum_apply (a : FVec Ideal S2x256x128x1 .f32) (p : FVec Ideal S2x256x128x128 .f32) (b : Fin 2) (h : Fin 256) (i : Fin 128) (z : Fin 1) :
    rowSum a p (ix4 b h i z) = 0 * a (ix4 b h i z) + ∑ j : Fin 128, p (ix4 b h i j) := by
  pointwise [rowSum]
theorem weighted_apply (a : FVec Ideal S2x256x128x1 .f32) (p : FVec Ideal S2x256x128x128 .f32) (b : Fin 2) (h : Fin 256) (i : Fin 128) (d : Fin 64) :
    weighted v a p (ix4 b i h d) = 0 * a (ix4 b h i 0) + ∑ j : Fin 128, v (ix4 b j h d) * p (ix4 b h i j) := by
  pointwise [weighted]
theorem project_apply (w : FVec Ideal S2x128x256x64 .f32) (l : FVec Ideal S2x256x128x1 .f32) (b : Fin 2) (i : Fin 128) (e : Fin 512) :
    project wo w l (ix3 b i e) = ∑ g : Fin 16384, Ideal.div (w (ix4 b i ⟨g.val / 64, by omega⟩ ⟨g.val % 64, Nat.mod_lt _ (by decide)⟩))
      (l (ix4 b ⟨g.val / 64, by omega⟩ i 0)) * wo (ix2 g e) := by
  pointwise [project]

/-- The attention's result by batch, query, head and component. -/
def attnAt (b : Fin 2) (i : Fin 128) (h : Fin 256) (d : Fin 64) : EReal :=
  rowR (fun j => (∑ t : Fin 64, (∑ u : Fin 512, x (ix3 b i u) * wq (ix2 u ⟨h.val * 64 + t.val, by omega⟩)) * k (ix4 b j h t)) * Ideal.ofBits .f32 0x3E000000#32)
    (fun j => v (ix4 b j h d))

theorem result_apply (b : Fin 2) (i : Fin 128) (e : Fin 512) : result x wq k v wo (ix3 b i e) =
    ∑ g : Fin 16384, attnAt x wq k v b i ⟨g.val / 64, by omega⟩ ⟨g.val % 64, Nat.mod_lt _ (by decide)⟩ * wo (ix2 g e) := by
  unfold result
  rw [project_apply]
  simp only [weighted_apply, rowSum_apply, rescale_apply, exps_apply, rowMax_apply, blockMax_apply, scores_apply]
  rfl

end Cert.KProof.Ref

end
-- ==== Proof.Value.lean ====
/-
The value claim: from finite x, Wq and K_ext (V_ext and Wo may be anything), every device ends holding the reference's
result. A device's partial result is its eight heads' share of the output product, so the sum of the devices' partial
results is the sum over all 256 heads.
-/
module

public import proofs.«01_k».proof.Proof.Frames
public import proofs.«01_k».proof.Proof.KernValue
public import proofs.«01_k».proof.Proof.RefValue
public import Idealize.ShloMosaic.Lib.ReduceAll
public import Idealize.ShloMosaic.Lib.WordArith

@[expose] public section

noncomputable section

namespace Cert.KProof

open Idealize.ShloMosaic Idealize.ShloMosaic.TcCoe
open Idealize.SL Idealize.SL.Sem

set_option maxRecDepth 16384

/-! ## The precondition read -/

/-- The shape facts the precondition's function takes. -/
theorem pre_facts : Cert.Pre_finite_scores_KernelIdeal.Facts where
  bcast_S_S2x128x512 := by decide
  reducesTo_S2x128x512_S_d0_1_2 := by decide
  h_S_ := by decide
  bcast_S_S512x512 := by decide
  reducesTo_S512x512_S_d0_1 := by decide
  bcast_S_S2x128x8x64 := by decide
  reducesTo_S2x128x8x64_S_d0_1_2_3 := by decide
/-- The same for the whole arrays' shapes. -/
theorem pre_facts_whole : Cert.Pre_finite_scores_ReferenceIdeal.Facts where
  bcast_S_S2x128x512 := by decide
  reducesTo_S2x128x512_S_d0_1_2 := by decide
  h_S_ := by decide
  bcast_S_S512x16384 := by decide
  reducesTo_S512x16384_S_d0_1 := by decide
  bcast_S_S2x128x256x64 := by decide
  reducesTo_S2x128x256x64_S_d0_1_2_3 := by decide

theorem ofBits_top : Ideal.ofBits .bf16 0x7F80#16 = ⊤ := by simp [Ideal.ofBits, Ideal.ieee]

/-- An absolute value below +∞ is that of a real. -/
theorem real_of_abs_lt (a : EReal) (h : Ideal.cmp .olt (max a (-a)) (Ideal.ofBits .bf16 0x7F80#16) = 1#1) : IsReal a := by
  rw [ofBits_top] at h
  have h : max a (-a) < ⊤ := by
    by_contra hn
    simp [Ideal.cmp, hn] at h
  induction a with
  | bot => exact absurd h (by simp)
  | coe r => exact ⟨r, rfl⟩
  | top => exact absurd h (by simp)

/-- A conjunction that is set has both its parts set. -/
theorem andi_one {a b : BitVec 1} (h : IntOp.andi a b = 1#1) : a = 1#1 ∧ b = 1#1 := by
  revert a b; decide

/-- The precondition says that every entry of x, Wq and K_ext is a real. -/
theorem finite_of_pre [Cert.Pre_finite_scores_KernelIdeal.Facts] (x : FVec Ideal ⟨3, ![2, 128, 512]⟩ .bf16) (wq : FVec Ideal ⟨2, ![512, 512]⟩ .bf16) (k v : FVec Ideal ⟨4, ![2, 128, 8, 64]⟩ .bf16)
    (wo : FVec Ideal ⟨2, ![512, 512]⟩ .bf16) (h : Cert.Pre_finite_scores_KernelIdeal.fn (F := Ideal) x wq k v wo = fun _ => 1#1) :
    (∀ i, IsReal (x i)) ∧ (∀ i, IsReal (wq i)) ∧ ∀ i, IsReal (k i) := by
  have h0 := congrFun h ix0
  dsimp only [Cert.Pre_finite_scores_KernelIdeal.fn] at h0
  obtain ⟨h01, h2⟩ := andi_one h0
  obtain ⟨h0, h1⟩ := andi_one h01
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i)⟩

/-! ## The two results -/

/-- A sum over the columns is a sum over the devices of sums over a device's columns. -/
theorem sum_blocks (f : Fin 16384 → EReal) : ∑ g, f g = ∑ d : Fin 32, ∑ c : Fin 512, f ⟨512 * d.val + c.val, by omega⟩ := by
  rw [← Fintype.sum_prod_type' (f := fun (d : Fin 32) (c : Fin 512) => f ⟨512 * d.val + c.val, by omega⟩)]
  refine (Fintype.sum_equiv (finProdFinEquiv (m := 32) (n := 512)) _ _ fun p => congrArg f (Fin.ext ?_)).symm
  show 512 * p.1.val + p.2.val = p.2.val + 512 * p.1.val
  omega

/-- The devices' operands are blocks of the reference's. -/
structure Blocks (I : Dev Cert.KernelIdeal.nD → Ins Ideal) (x : FVec Ideal ⟨3, ![2, 128, 512]⟩ .bf16) (wq : FVec Ideal ⟨2, ![512, 16384]⟩ .bf16)
    (k v : FVec Ideal ⟨4, ![2, 128, 256, 64]⟩ .bf16) (wo : FVec Ideal ⟨2, ![16384, 512]⟩ .bf16) : Prop where
  x : ∀ c, (I c).x = x
  wq : ∀ c, (I c).wq = Layout.block ⟨2, ![512, 512]⟩ ⟨2, ![512, 16384]⟩ 1 32 c wq
  k : ∀ c, (I c).k = Layout.block ⟨4, ![2, 128, 8, 64]⟩ ⟨4, ![2, 128, 256, 64]⟩ 2 32 c k
  v : ∀ c, (I c).v = Layout.block ⟨4, ![2, 128, 8, 64]⟩ ⟨4, ![2, 128, 256, 64]⟩ 2 32 c v
  wo : ∀ c, (I c).wo = Layout.block ⟨2, ![512, 512]⟩ ⟨2, ![16384, 512]⟩ 0 32 c wo

/-- Every device's x, Wq and K_ext are finite. -/
def Finite (I : Dev Cert.KernelIdeal.nD → Ins Ideal) : Prop :=
  ∀ c, (∀ i, IsReal ((I c).x i)) ∧ (∀ i, IsReal ((I c).wq i)) ∧ ∀ i, IsReal ((I c).k i)

section

variable {I : Dev Cert.KernelIdeal.nD → Ins Ideal} {x : FVec Ideal ⟨3, ![2, 128, 512]⟩ .bf16} {wq : FVec Ideal ⟨2, ![512, 16384]⟩ .bf16}
  {k v : FVec Ideal ⟨4, ![2, 128, 256, 64]⟩ .bf16} {wo : FVec Ideal ⟨2, ![16384, 512]⟩ .bf16}

/-- A device's columns of Wq are the whole array's from 512 times its index on; its rows of Wo and its heads likewise. -/
theorem cols_apply (f : FVec Ideal ⟨2, ![512, 16384]⟩ .bf16) (c : Fin 32) (u e : Fin 512) :
    Layout.block ⟨2, ![512, 512]⟩ ⟨2, ![512, 16384]⟩ 1 32 c f (by decide) (ix2 u e) = f (ix2 u ⟨512 * c.val + e.val, by omega⟩) := by
  refine congrArg f (funext fun a => ?_)
  match a with
  | ⟨0, _⟩ => rfl
  | ⟨1, _⟩ => exact Fin.ext (show c.val * 512 + e.val = 512 * c.val + e.val by omega)
theorem rows_apply (f : FVec Ideal ⟨2, ![16384, 512]⟩ .bf16) (c : Fin 32) (u e : Fin 512) :
    Layout.block ⟨2, ![512, 512]⟩ ⟨2, ![16384, 512]⟩ 0 32 c f (by decide) (ix2 u e) = f (ix2 ⟨512 * c.val + u.val, by omega⟩ e) := by
  refine congrArg f (funext fun a => ?_)
  match a with
  | ⟨0, _⟩ => exact Fin.ext (show c.val * 512 + u.val = 512 * c.val + u.val by omega)
  | ⟨1, _⟩ => rfl
theorem heads_apply (f : FVec Ideal ⟨4, ![2, 128, 256, 64]⟩ .bf16) (c : Fin 32) (b : Fin 2) (j : Fin 128) (h : Fin 8) (t : Fin 64) :
    Layout.block ⟨4, ![2, 128, 8, 64]⟩ ⟨4, ![2, 128, 256, 64]⟩ 2 32 c f (by decide) (ix4 b j h t) = f (ix4 b j ⟨8 * c.val + h.val, by omega⟩ t) := by
  refine congrArg f (funext fun a => ?_)
  match a with
  | ⟨0, _⟩ => rfl
  | ⟨1, _⟩ => rfl
  | ⟨2, _⟩ => exact Fin.ext (show c.val * 8 + h.val = 8 * c.val + h.val by omega)
  | ⟨3, _⟩ => rfl

/-- A device's head is the reference's. -/
theorem attn_eq (hB : Blocks I x wq k v wo) (hF : Finite I) (c : Fin 32) (b : Fin 2) (i : Fin 128) (h : Fin 8) (d : Fin 64) :
    attnAt (I c) b i h d = Ref.attnAt x wq k v b i ⟨8 * c.val + h.val, by omega⟩ d := by
  obtain ⟨hx, hw, hk⟩ := hF c
  unfold attnAt Ref.attnAt
  simp only [score_eq]
  rw [row_eq fun j => score_real (fun t => IsReal.sum fun u => (hx _).mul (hw _)) fun t => hk _]
  have e : ∀ t : Fin 64, (⟨512 * c.val + (64 * h.val + t.val), by omega⟩ : Fin 16384) = ⟨(8 * c.val + h.val) * 64 + t.val, by omega⟩ := fun t =>
    Fin.ext (show 512 * c.val + (64 * h.val + t.val) = (8 * c.val + h.val) * 64 + t.val by omega)
  simp only [hB.x, hB.wq, hB.k, hB.v]
  simp only [cols_apply, heads_apply, e]

/-- What every device ends holding is the reference's result. -/
theorem result_same (hB : Blocks I x wq k v wo) (hF : Finite I) : outOf (dataOf I).red = Ref.result x wq k v wo := by
  funext j
  obtain ⟨b, i, e, rfl⟩ : ∃ b i e, j = ix3 b i e := ⟨j 0, j 1, j 2, eq_ix3 j⟩
  rw [outOf_apply, Ref.result_apply, sum_blocks]
  refine Finset.sum_congr rfl fun c _ => ?_
  rw [partOf_apply]
  refine Finset.sum_congr rfl fun f _ => ?_
  rw [attn_eq hB hF c, hB.wo, rows_apply]
  have e1 : (512 * c.val + f.val) / 64 = 8 * c.val + f.val / 64 := by omega
  have e2 : (512 * c.val + f.val) % 64 = f.val % 64 := by omega
  simp only [e1, e2]

end

/-! ## The claim -/

/-- A window that is its whole array reads the array. -/
theorem array_x (f : FVec Ideal Cert.KernelIdeal.main_arg0.ty.shape .bf16) : (Cert.KernelIdeal.win0_0.blk (0 : Fin 1)).view.read (Elt Ideal) f = f :=
  Memref.read_access_unit_zero (Elt Ideal) Cert.KernelIdeal.main_arg0 (funext fun a => by fin_cases a <;> decide) (fun a => by fin_cases a <;> decide) f
theorem array_wq (f : FVec Ideal Cert.KernelIdeal.main_arg1.ty.shape .bf16) : (Cert.KernelIdeal.win0_1.blk (0 : Fin 1)).view.read (Elt Ideal) f = f :=
  Memref.read_access_unit_zero (Elt Ideal) Cert.KernelIdeal.main_arg1 (funext fun a => by fin_cases a <;> decide) (fun a => by fin_cases a <;> decide) f
theorem array_wo (f : FVec Ideal Cert.KernelIdeal.main_arg4.ty.shape .bf16) : (Cert.KernelIdeal.win0_2.blk (0 : Fin 1)).view.read (Elt Ideal) f = f :=
  Memref.read_access_unit_zero (Elt Ideal) Cert.KernelIdeal.main_arg4 (funext fun a => by fin_cases a <;> decide) (fun a => by fin_cases a <;> decide) f
theorem array_k (f : FVec Ideal Cert.KernelIdeal.main_arg2.ty.shape .bf16) : (Cert.KernelIdeal.win0_3.blk (0 : Fin 1)).view.read (Elt Ideal) f = f :=
  Memref.read_access_unit_zero (Elt Ideal) Cert.KernelIdeal.main_arg2 (funext fun a => by fin_cases a <;> decide) (fun a => by fin_cases a <;> decide) f
theorem array_v (f : FVec Ideal Cert.KernelIdeal.main_arg3.ty.shape .bf16) : (Cert.KernelIdeal.win0_4.blk (0 : Fin 1)).view.read (Elt Ideal) f = f :=
  Memref.read_access_unit_zero (Elt Ideal) Cert.KernelIdeal.main_arg3 (funext fun a => by fin_cases a <;> decide) (fun a => by fin_cases a <;> decide) f
theorem array_out (f : FVec Ideal Cert.KernelIdeal.main_v1.ty.shape .bf16) : (Cert.KernelIdeal.win0_5.blk (0 : Fin 1)).view.read (Elt Ideal) f = f :=
  Memref.read_access_unit_zero (Elt Ideal) Cert.KernelIdeal.main_v1 (funext fun a => by fin_cases a <;> decide) (fun a => by fin_cases a <;> decide) f

/-- From memories whose operands agree and whose x, Wq and K_ext are finite, every device and the reference end holding
one result, with the operands kept. -/
theorem algebraic : Cert.algebraic_KernelIdeal_ReferenceIdeal_pre_finite_scores_KernelIdeal
    (hPre_finite_scores_KernelIdeal := pre_facts) := by
  intro m g m' g' hpre hagree
  have hB : Blocks (insOf m) _ _ _ _ _ :=
    ⟨fun c => (array_x _).trans (hagree c).1, fun c => (array_wq _).trans (hagree c).2.1, fun c => (array_k _).trans (hagree c).2.2.1,
      fun c => (array_v _).trans (hagree c).2.2.2.1, fun c => (array_wo _).trans (hagree c).2.2.2.2⟩
  have hF : Finite (insOf m) := fun c => by
    obtain ⟨h0, h1, h2⟩ := @finite_of_pre pre_facts _ _ _ _ _ (hpre c)
    refine ⟨fun i => ?_, fun i => ?_, fun i => ?_⟩
    · rw [show (insOf m c).x = _ from array_x _]; exact h0 i
    · rw [show (insOf m c).wq = _ from array_wq _]; exact h1 i
    · rw [show (insOf m c).k = _ from array_k _]; exact h2 i
  have hr := result_same hB hF
  refine ⟨Cert.ReferenceIdeal.Value.res_main_v36 (F := Ideal) m' (0 : Dev Cert.ReferenceIdeal.nD), ?_, ?_⟩
  · exact (θ_run Cert.KernelIdeal.defs _ _).mono
      (fun _ h c => ⟨(h.1 c (5 : Fin 6)).trans ((array_out _).symm.trans ((result_eq m g c).trans (hr.trans (Ref.res_eq m' 0).symm))),
        operands m g h.1 c⟩) (run_main m g)
  · exact (θ_run Cert.ReferenceIdeal.defs _ _).mono (fun _ h => h 0) (Cert.ReferenceIdeal.Value.run (F := Ideal) m' g')

end Cert.KProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic

/-- The frames, the idealization (which rewrote nothing), and the value. A frame under the precondition is the frame
without it. -/
theorem claim : Cert.Claim :=
  ⟨Cert.Kernel.Gen.facts, Cert.KernelIdeal.Gen.facts, Cert.ReferenceIdeal.Gen.facts, Cert.KProof.pre_facts, Cert.KProof.pre_facts_whole,
    Cert.KProof.frame_kernel, Cert.KProof.frame_ideal, fun m g _ => Cert.KProof.frame_ideal m g trivial,
    Cert.KProof.frame_reference, fun m g _ => Cert.KProof.frame_reference m g trivial, trivial, Cert.KProof.algebraic⟩

end Cert.Proof

end
